-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S65536x1024 : Shape := ⟨2, ![65536, 1024]⟩
abbrev S12 : Shape := ⟨1, ![12]⟩
abbrev S_ : Shape := ⟨0, ![]⟩
abbrev S1 : Shape := ⟨1, ![1]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S65536x1024, .bf16⟩
  | _, _ => ⟨S16384x1024, .bf16⟩

abbrev bufScoped : (cs : CoreSpace) → Fin (nBuf (.core cs)) → Bool
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v17 : BitVec 32 := Scalar.muli v8 c16384_i32
  let c0_i32_7 : BitVec 32 := 0#32
  ![v17.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v20 : BitVec 32 := Scalar.extui v12
  let c0_i32_8 : BitVec 32 := 0#32
  let v21 : BitVec 1 := Scalar.cmpi .ne v20 c0_i32_8
  v21

def k0_dev1 (d0 : Dev nD) : Nat :=
  let c0_i32_358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_357 : BitVec 32 := 16#32
  let v621 : BitVec 32 := Scalar.muli v2 c16_i32_357
  let v622 : BitVec 32 := Scalar.addi c0_i32_358 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_359 : BitVec 32 := 4#32
  let v623 : BitVec 32 := Scalar.muli v5 c4_i32_359
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_360 : BitVec 32 := 1#32
  let v625 : BitVec 32 := Scalar.muli v15 c1_i32_360
  let v626 : BitVec 32 := Scalar.addi v624 v625
  v626.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v22 : BitVec 32 := Scalar.extui v13
  let c0_i32_9 : BitVec 32 := 0#32
  let v23 : BitVec 1 := Scalar.cmpi .ne v22 c0_i32_9
  v23

def k0_dev2 (d0 : Dev nD) : Nat :=
  let c0_i32_358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_357 : BitVec 32 := 16#32
  let v621 : BitVec 32 := Scalar.muli v2 c16_i32_357
  let v622 : BitVec 32 := Scalar.addi c0_i32_358 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_359 : BitVec 32 := 4#32
  let v623 : BitVec 32 := Scalar.muli v5 c4_i32_359
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_360 : BitVec 32 := 1#32
  let v625 : BitVec 32 := Scalar.muli v16 c1_i32_360
  let v626 : BitVec 32 := Scalar.addi v624 v625
  v626.toNat
def k0_dev3 (d0 : Dev nD) : Nat :=
  let c0_i32_12 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_11 : BitVec 32 := 16#32
  let v24 : BitVec 32 := Scalar.muli v14 c16_i32_11
  let v25 : BitVec 32 := Scalar.addi c0_i32_12 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v26 : BitVec 32 := Scalar.muli v5 c4_i32_13
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v28 : BitVec 32 := Scalar.muli v8 c1_i32_14
  let v29 : BitVec 32 := Scalar.addi v27 v28
  v29.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v30 : BitVec 32 := Scalar.extui v13
  let c0_i32_16 : BitVec 32 := 0#32
  let v31 : BitVec 1 := Scalar.cmpi .ne v30 c0_i32_16
  v31

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c0_i32_358 : BitVec 32 := 0#32
  let v624 : BitVec 32 := Scalar.addi v623 c0_i32_358
  let c0_i32_364 : BitVec 32 := 0#32
  ![v624.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c0_i32_356 : BitVec 32 := 0#32
  let v621 : BitVec 32 := Scalar.addi v9 c0_i32_356
  let c0_i32_365 : BitVec 32 := 0#32
  ![v621.toNat, 0]
def k0_dev4 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_363 : BitVec 32 := 1#32
  let v629 : BitVec 32 := Scalar.muli v16 c1_i32_363
  let v630 : BitVec 32 := Scalar.addi v628 v629
  v630.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v32 : BitVec 32 := Scalar.extui v12
  let c0_i32_17 : BitVec 32 := 0#32
  let v33 : BitVec 1 := Scalar.cmpi .ne v32 c0_i32_17
  v33

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c0_i32_358 : BitVec 32 := 0#32
  let v624 : BitVec 32 := Scalar.addi v623 c0_i32_358
  let c0_i32_364 : BitVec 32 := 0#32
  ![v624.toNat, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c0_i32_356 : BitVec 32 := 0#32
  let v621 : BitVec 32 := Scalar.addi v9 c0_i32_356
  let c0_i32_365 : BitVec 32 := 0#32
  ![v621.toNat, 0]
def k0_dev5 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_363 : BitVec 32 := 1#32
  let v629 : BitVec 32 := Scalar.muli v15 c1_i32_363
  let v630 : BitVec 32 := Scalar.addi v628 v629
  v630.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v34 : BitVec 32 := Scalar.extui v13
  let c0_i32_18 : BitVec 32 := 0#32
  let v35 : BitVec 1 := Scalar.cmpi .ne v34 c0_i32_18
  v35

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c2048_i32_358 : BitVec 32 := 2048#32
  let v624 : BitVec 32 := Scalar.addi v623 c2048_i32_358
  let c0_i32_364 : BitVec 32 := 0#32
  ![v624.toNat, 0]
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c2048_i32_356 : BitVec 32 := 2048#32
  let v621 : BitVec 32 := Scalar.addi v9 c2048_i32_356
  let c0_i32_365 : BitVec 32 := 0#32
  ![v621.toNat, 0]
def k0_dev6 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_363 : BitVec 32 := 1#32
  let v629 : BitVec 32 := Scalar.muli v16 c1_i32_363
  let v630 : BitVec 32 := Scalar.addi v628 v629
  v630.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v36 : BitVec 32 := Scalar.extui v12
  let c0_i32_19 : BitVec 32 := 0#32
  let v37 : BitVec 1 := Scalar.cmpi .ne v36 c0_i32_19
  v37

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c2048_i32_358 : BitVec 32 := 2048#32
  let v624 : BitVec 32 := Scalar.addi v623 c2048_i32_358
  let c0_i32_364 : BitVec 32 := 0#32
  ![v624.toNat, 0]
def k0_off9 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c2048_i32_356 : BitVec 32 := 2048#32
  let v621 : BitVec 32 := Scalar.addi v9 c2048_i32_356
  let c0_i32_365 : BitVec 32 := 0#32
  ![v621.toNat, 0]
def k0_dev7 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_363 : BitVec 32 := 1#32
  let v629 : BitVec 32 := Scalar.muli v15 c1_i32_363
  let v630 : BitVec 32 := Scalar.addi v628 v629
  v630.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v38 : BitVec 32 := Scalar.extui v13
  let c0_i32_20 : BitVec 32 := 0#32
  let v39 : BitVec 1 := Scalar.cmpi .ne v38 c0_i32_20
  v39

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c4096_i32_358 : BitVec 32 := 4096#32
  let v624 : BitVec 32 := Scalar.addi v623 c4096_i32_358
  let c0_i32_364 : BitVec 32 := 0#32
  ![v624.toNat, 0]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c4096_i32_356 : BitVec 32 := 4096#32
  let v621 : BitVec 32 := Scalar.addi v9 c4096_i32_356
  let c0_i32_365 : BitVec 32 := 0#32
  ![v621.toNat, 0]
def k0_dev8 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_363 : BitVec 32 := 1#32
  let v629 : BitVec 32 := Scalar.muli v16 c1_i32_363
  let v630 : BitVec 32 := Scalar.addi v628 v629
  v630.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v40 : BitVec 32 := Scalar.extui v12
  let c0_i32_21 : BitVec 32 := 0#32
  let v41 : BitVec 1 := Scalar.cmpi .ne v40 c0_i32_21
  v41

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c4096_i32_358 : BitVec 32 := 4096#32
  let v624 : BitVec 32 := Scalar.addi v623 c4096_i32_358
  let c0_i32_364 : BitVec 32 := 0#32
  ![v624.toNat, 0]
def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c4096_i32_356 : BitVec 32 := 4096#32
  let v621 : BitVec 32 := Scalar.addi v9 c4096_i32_356
  let c0_i32_365 : BitVec 32 := 0#32
  ![v621.toNat, 0]
def k0_dev9 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_363 : BitVec 32 := 1#32
  let v629 : BitVec 32 := Scalar.muli v15 c1_i32_363
  let v630 : BitVec 32 := Scalar.addi v628 v629
  v630.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v42 : BitVec 32 := Scalar.extui v13
  let c0_i32_22 : BitVec 32 := 0#32
  let v43 : BitVec 1 := Scalar.cmpi .ne v42 c0_i32_22
  v43

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c6144_i32_358 : BitVec 32 := 6144#32
  let v624 : BitVec 32 := Scalar.addi v623 c6144_i32_358
  let c0_i32_364 : BitVec 32 := 0#32
  ![v624.toNat, 0]
def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c6144_i32_356 : BitVec 32 := 6144#32
  let v621 : BitVec 32 := Scalar.addi v9 c6144_i32_356
  let c0_i32_365 : BitVec 32 := 0#32
  ![v621.toNat, 0]
def k0_dev10 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_363 : BitVec 32 := 1#32
  let v629 : BitVec 32 := Scalar.muli v16 c1_i32_363
  let v630 : BitVec 32 := Scalar.addi v628 v629
  v630.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v44 : BitVec 32 := Scalar.extui v12
  let c0_i32_23 : BitVec 32 := 0#32
  let v45 : BitVec 1 := Scalar.cmpi .ne v44 c0_i32_23
  v45

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_357 : BitVec 32 := 16384#32
  let v622 : BitVec 32 := Scalar.muli v8 c16384_i32_357
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v623 : BitVec 32 := Scalar.addi v622 v9
  let c6144_i32_358 : BitVec 32 := 6144#32
  let v624 : BitVec 32 := Scalar.addi v623 c6144_i32_358
  let c0_i32_364 : BitVec 32 := 0#32
  ![v624.toNat, 0]
def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let c6144_i32_356 : BitVec 32 := 6144#32
  let v621 : BitVec 32 := Scalar.addi v9 c6144_i32_356
  let c0_i32_365 : BitVec 32 := 0#32
  ![v621.toNat, 0]
def k0_dev11 (d0 : Dev nD) : Nat :=
  let c0_i32_361 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_360 : BitVec 32 := 16#32
  let v625 : BitVec 32 := Scalar.muli v2 c16_i32_360
  let v626 : BitVec 32 := Scalar.addi c0_i32_361 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v627 : BitVec 32 := Scalar.muli v5 c4_i32_362
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_363 : BitVec 32 := 1#32
  let v629 : BitVec 32 := Scalar.muli v15 c1_i32_363
  let v630 : BitVec 32 := Scalar.addi v628 v629
  v630.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v58 : BitVec 32 := Scalar.extui v50
  let c0_i32_34 : BitVec 32 := 0#32
  let v59 : BitVec 1 := Scalar.cmpi .ne v58 c0_i32_34
  v59

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_30 : BitVec 32 := 16384#32
  let v52 : BitVec 32 := Scalar.muli v47 c16384_i32_30
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v53 : BitVec 32 := Scalar.addi v52 v9
  let c0_i32_31 : BitVec 32 := 0#32
  let v54 : BitVec 32 := Scalar.addi v53 c0_i32_31
  let c0_i32_361 : BitVec 32 := 0#32
  ![v54.toNat, 0]
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let c3_i32 : BitVec 32 := 3#32
  let v13 : BitVec 1 := Scalar.cmpi .slt v8 c3_i32
  let v60 : BitVec 1 := Scalar.andi v50 v13
  let v61 : BitVec 32 := Scalar.extui v60
  let c0_i32_35 : BitVec 32 := 0#32
  let v62 : BitVec 1 := Scalar.cmpi .ne v61 c0_i32_35
  v62

def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_30 : BitVec 32 := 16384#32
  let v52 : BitVec 32 := Scalar.muli v47 c16384_i32_30
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v53 : BitVec 32 := Scalar.addi v52 v9
  let c0_i32_31 : BitVec 32 := 0#32
  let v54 : BitVec 32 := Scalar.addi v53 c0_i32_31
  let c0_i32_361 : BitVec 32 := 0#32
  ![v54.toNat, 0]
def k0_dev12 (d0 : Dev nD) : Nat :=
  let c0_i32_358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_357 : BitVec 32 := 16#32
  let v621 : BitVec 32 := Scalar.muli v2 c16_i32_357
  let v622 : BitVec 32 := Scalar.addi c0_i32_358 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_359 : BitVec 32 := 4#32
  let v623 : BitVec 32 := Scalar.muli v5 c4_i32_359
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_360 : BitVec 32 := 1#32
  let v625 : BitVec 32 := Scalar.muli v16 c1_i32_360
  let v626 : BitVec 32 := Scalar.addi v624 v625
  v626.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v63 : BitVec 32 := Scalar.extui v50
  let c0_i32_36 : BitVec 32 := 0#32
  let v64 : BitVec 1 := Scalar.cmpi .ne v63 c0_i32_36
  v64

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_30 : BitVec 32 := 16384#32
  let v52 : BitVec 32 := Scalar.muli v47 c16384_i32_30
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v53 : BitVec 32 := Scalar.addi v52 v9
  let c0_i32_31 : BitVec 32 := 0#32
  let v54 : BitVec 32 := Scalar.addi v53 c0_i32_31
  let c0_i32_360 : BitVec 32 := 0#32
  ![v54.toNat, 0]
def k0_dev13 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v65 : BitVec 32 := Scalar.extui v51
  let c0_i32_37 : BitVec 32 := 0#32
  let v66 : BitVec 1 := Scalar.cmpi .ne v65 c0_i32_37
  v66

def k0_off21 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_32 : BitVec 32 := 16384#32
  let v55 : BitVec 32 := Scalar.muli v49 c16384_i32_32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v56 : BitVec 32 := Scalar.addi v55 v9
  let c0_i32_33 : BitVec 32 := 0#32
  let v57 : BitVec 32 := Scalar.addi v56 c0_i32_33
  let c0_i32_361 : BitVec 32 := 0#32
  ![v57.toNat, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let c0_i32 : BitVec 32 := 0#32
  let v12 : BitVec 1 := Scalar.cmpi .sgt v8 c0_i32
  let v67 : BitVec 1 := Scalar.andi v51 v12
  let v68 : BitVec 32 := Scalar.extui v67
  let c0_i32_38 : BitVec 32 := 0#32
  let v69 : BitVec 1 := Scalar.cmpi .ne v68 c0_i32_38
  v69

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_32 : BitVec 32 := 16384#32
  let v55 : BitVec 32 := Scalar.muli v49 c16384_i32_32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v56 : BitVec 32 := Scalar.addi v55 v9
  let c0_i32_33 : BitVec 32 := 0#32
  let v57 : BitVec 32 := Scalar.addi v56 c0_i32_33
  let c0_i32_361 : BitVec 32 := 0#32
  ![v57.toNat, 0]
def k0_dev14 (d0 : Dev nD) : Nat :=
  let c0_i32_358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_357 : BitVec 32 := 16#32
  let v621 : BitVec 32 := Scalar.muli v2 c16_i32_357
  let v622 : BitVec 32 := Scalar.addi c0_i32_358 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_359 : BitVec 32 := 4#32
  let v623 : BitVec 32 := Scalar.muli v5 c4_i32_359
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_360 : BitVec 32 := 1#32
  let v625 : BitVec 32 := Scalar.muli v15 c1_i32_360
  let v626 : BitVec 32 := Scalar.addi v624 v625
  v626.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v70 : BitVec 32 := Scalar.extui v51
  let c0_i32_39 : BitVec 32 := 0#32
  let v71 : BitVec 1 := Scalar.cmpi .ne v70 c0_i32_39
  v71

def k0_off23 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_32 : BitVec 32 := 16384#32
  let v55 : BitVec 32 := Scalar.muli v49 c16384_i32_32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v56 : BitVec 32 := Scalar.addi v55 v9
  let c0_i32_33 : BitVec 32 := 0#32
  let v57 : BitVec 32 := Scalar.addi v56 c0_i32_33
  let c0_i32_360 : BitVec 32 := 0#32
  ![v57.toNat, 0]
def k0_dev15 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v78 : BitVec 32 := Scalar.extui v50
  let c0_i32_43 : BitVec 32 := 0#32
  let v79 : BitVec 1 := Scalar.cmpi .ne v78 c0_i32_43
  v79

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_40 : BitVec 32 := 16384#32
  let v72 : BitVec 32 := Scalar.muli v47 c16384_i32_40
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v73 : BitVec 32 := Scalar.addi v72 v9
  let c2048_i32 : BitVec 32 := 2048#32
  let v74 : BitVec 32 := Scalar.addi v73 c2048_i32
  let c0_i32_361 : BitVec 32 := 0#32
  ![v74.toNat, 0]
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let c3_i32 : BitVec 32 := 3#32
  let v13 : BitVec 1 := Scalar.cmpi .slt v8 c3_i32
  let v80 : BitVec 1 := Scalar.andi v50 v13
  let v81 : BitVec 32 := Scalar.extui v80
  let c0_i32_44 : BitVec 32 := 0#32
  let v82 : BitVec 1 := Scalar.cmpi .ne v81 c0_i32_44
  v82

def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_40 : BitVec 32 := 16384#32
  let v72 : BitVec 32 := Scalar.muli v47 c16384_i32_40
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v73 : BitVec 32 := Scalar.addi v72 v9
  let c2048_i32 : BitVec 32 := 2048#32
  let v74 : BitVec 32 := Scalar.addi v73 c2048_i32
  let c0_i32_360 : BitVec 32 := 0#32
  ![v74.toNat, 0]
def k0_dev16 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v83 : BitVec 32 := Scalar.extui v50
  let c0_i32_45 : BitVec 32 := 0#32
  let v84 : BitVec 1 := Scalar.cmpi .ne v83 c0_i32_45
  v84

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_40 : BitVec 32 := 16384#32
  let v72 : BitVec 32 := Scalar.muli v47 c16384_i32_40
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v73 : BitVec 32 := Scalar.addi v72 v9
  let c2048_i32 : BitVec 32 := 2048#32
  let v74 : BitVec 32 := Scalar.addi v73 c2048_i32
  let c0_i32_360 : BitVec 32 := 0#32
  ![v74.toNat, 0]
def k0_dev17 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v85 : BitVec 32 := Scalar.extui v51
  let c0_i32_46 : BitVec 32 := 0#32
  let v86 : BitVec 1 := Scalar.cmpi .ne v85 c0_i32_46
  v86

def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_41 : BitVec 32 := 16384#32
  let v75 : BitVec 32 := Scalar.muli v49 c16384_i32_41
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v76 : BitVec 32 := Scalar.addi v75 v9
  let c2048_i32_42 : BitVec 32 := 2048#32
  let v77 : BitVec 32 := Scalar.addi v76 c2048_i32_42
  let c0_i32_361 : BitVec 32 := 0#32
  ![v77.toNat, 0]
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let c0_i32 : BitVec 32 := 0#32
  let v12 : BitVec 1 := Scalar.cmpi .sgt v8 c0_i32
  let v87 : BitVec 1 := Scalar.andi v51 v12
  let v88 : BitVec 32 := Scalar.extui v87
  let c0_i32_47 : BitVec 32 := 0#32
  let v89 : BitVec 1 := Scalar.cmpi .ne v88 c0_i32_47
  v89

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_41 : BitVec 32 := 16384#32
  let v75 : BitVec 32 := Scalar.muli v49 c16384_i32_41
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v76 : BitVec 32 := Scalar.addi v75 v9
  let c2048_i32_42 : BitVec 32 := 2048#32
  let v77 : BitVec 32 := Scalar.addi v76 c2048_i32_42
  let c0_i32_360 : BitVec 32 := 0#32
  ![v77.toNat, 0]
def k0_dev18 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v90 : BitVec 32 := Scalar.extui v51
  let c0_i32_48 : BitVec 32 := 0#32
  let v91 : BitVec 1 := Scalar.cmpi .ne v90 c0_i32_48
  v91

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_41 : BitVec 32 := 16384#32
  let v75 : BitVec 32 := Scalar.muli v49 c16384_i32_41
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v76 : BitVec 32 := Scalar.addi v75 v9
  let c2048_i32_42 : BitVec 32 := 2048#32
  let v77 : BitVec 32 := Scalar.addi v76 c2048_i32_42
  let c0_i32_360 : BitVec 32 := 0#32
  ![v77.toNat, 0]
def k0_dev19 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v98 : BitVec 32 := Scalar.extui v50
  let c0_i32_52 : BitVec 32 := 0#32
  let v99 : BitVec 1 := Scalar.cmpi .ne v98 c0_i32_52
  v99

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_49 : BitVec 32 := 16384#32
  let v92 : BitVec 32 := Scalar.muli v47 c16384_i32_49
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v93 : BitVec 32 := Scalar.addi v92 v9
  let c4096_i32 : BitVec 32 := 4096#32
  let v94 : BitVec 32 := Scalar.addi v93 c4096_i32
  let c0_i32_361 : BitVec 32 := 0#32
  ![v94.toNat, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let c3_i32 : BitVec 32 := 3#32
  let v13 : BitVec 1 := Scalar.cmpi .slt v8 c3_i32
  let v100 : BitVec 1 := Scalar.andi v50 v13
  let v101 : BitVec 32 := Scalar.extui v100
  let c0_i32_53 : BitVec 32 := 0#32
  let v102 : BitVec 1 := Scalar.cmpi .ne v101 c0_i32_53
  v102

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_49 : BitVec 32 := 16384#32
  let v92 : BitVec 32 := Scalar.muli v47 c16384_i32_49
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v93 : BitVec 32 := Scalar.addi v92 v9
  let c4096_i32 : BitVec 32 := 4096#32
  let v94 : BitVec 32 := Scalar.addi v93 c4096_i32
  let c0_i32_360 : BitVec 32 := 0#32
  ![v94.toNat, 0]
def k0_dev20 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v103 : BitVec 32 := Scalar.extui v50
  let c0_i32_54 : BitVec 32 := 0#32
  let v104 : BitVec 1 := Scalar.cmpi .ne v103 c0_i32_54
  v104

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_49 : BitVec 32 := 16384#32
  let v92 : BitVec 32 := Scalar.muli v47 c16384_i32_49
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v93 : BitVec 32 := Scalar.addi v92 v9
  let c4096_i32 : BitVec 32 := 4096#32
  let v94 : BitVec 32 := Scalar.addi v93 c4096_i32
  let c0_i32_360 : BitVec 32 := 0#32
  ![v94.toNat, 0]
def k0_dev21 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v105 : BitVec 32 := Scalar.extui v51
  let c0_i32_55 : BitVec 32 := 0#32
  let v106 : BitVec 1 := Scalar.cmpi .ne v105 c0_i32_55
  v106

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_50 : BitVec 32 := 16384#32
  let v95 : BitVec 32 := Scalar.muli v49 c16384_i32_50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v96 : BitVec 32 := Scalar.addi v95 v9
  let c4096_i32_51 : BitVec 32 := 4096#32
  let v97 : BitVec 32 := Scalar.addi v96 c4096_i32_51
  let c0_i32_361 : BitVec 32 := 0#32
  ![v97.toNat, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let c0_i32 : BitVec 32 := 0#32
  let v12 : BitVec 1 := Scalar.cmpi .sgt v8 c0_i32
  let v107 : BitVec 1 := Scalar.andi v51 v12
  let v108 : BitVec 32 := Scalar.extui v107
  let c0_i32_56 : BitVec 32 := 0#32
  let v109 : BitVec 1 := Scalar.cmpi .ne v108 c0_i32_56
  v109

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_50 : BitVec 32 := 16384#32
  let v95 : BitVec 32 := Scalar.muli v49 c16384_i32_50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v96 : BitVec 32 := Scalar.addi v95 v9
  let c4096_i32_51 : BitVec 32 := 4096#32
  let v97 : BitVec 32 := Scalar.addi v96 c4096_i32_51
  let c0_i32_360 : BitVec 32 := 0#32
  ![v97.toNat, 0]
def k0_dev22 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v110 : BitVec 32 := Scalar.extui v51
  let c0_i32_57 : BitVec 32 := 0#32
  let v111 : BitVec 1 := Scalar.cmpi .ne v110 c0_i32_57
  v111

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_50 : BitVec 32 := 16384#32
  let v95 : BitVec 32 := Scalar.muli v49 c16384_i32_50
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v96 : BitVec 32 := Scalar.addi v95 v9
  let c4096_i32_51 : BitVec 32 := 4096#32
  let v97 : BitVec 32 := Scalar.addi v96 c4096_i32_51
  let c0_i32_360 : BitVec 32 := 0#32
  ![v97.toNat, 0]
def k0_dev23 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v118 : BitVec 32 := Scalar.extui v50
  let c0_i32_61 : BitVec 32 := 0#32
  let v119 : BitVec 1 := Scalar.cmpi .ne v118 c0_i32_61
  v119

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_58 : BitVec 32 := 16384#32
  let v112 : BitVec 32 := Scalar.muli v47 c16384_i32_58
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v113 : BitVec 32 := Scalar.addi v112 v9
  let c6144_i32 : BitVec 32 := 6144#32
  let v114 : BitVec 32 := Scalar.addi v113 c6144_i32
  let c0_i32_361 : BitVec 32 := 0#32
  ![v114.toNat, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let c3_i32 : BitVec 32 := 3#32
  let v13 : BitVec 1 := Scalar.cmpi .slt v8 c3_i32
  let v120 : BitVec 1 := Scalar.andi v50 v13
  let v121 : BitVec 32 := Scalar.extui v120
  let c0_i32_62 : BitVec 32 := 0#32
  let v122 : BitVec 1 := Scalar.cmpi .ne v121 c0_i32_62
  v122

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_58 : BitVec 32 := 16384#32
  let v112 : BitVec 32 := Scalar.muli v47 c16384_i32_58
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v113 : BitVec 32 := Scalar.addi v112 v9
  let c6144_i32 : BitVec 32 := 6144#32
  let v114 : BitVec 32 := Scalar.addi v113 c6144_i32
  let c0_i32_360 : BitVec 32 := 0#32
  ![v114.toNat, 0]
def k0_dev24 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c0_i32_28 : BitVec 32 := 0#32
  let v50 : BitVec 1 := Scalar.cmpi .sge v47 c0_i32_28
  let v123 : BitVec 32 := Scalar.extui v50
  let c0_i32_63 : BitVec 32 := 0#32
  let v124 : BitVec 1 := Scalar.cmpi .ne v123 c0_i32_63
  v124

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.subi v8 c1_i32_24
  let c0_i32_25 : BitVec 32 := 0#32
  let v47 : BitVec 32 := Scalar.subi v46 c0_i32_25
  let c16384_i32_58 : BitVec 32 := 16384#32
  let v112 : BitVec 32 := Scalar.muli v47 c16384_i32_58
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v113 : BitVec 32 := Scalar.addi v112 v9
  let c6144_i32 : BitVec 32 := 6144#32
  let v114 : BitVec 32 := Scalar.addi v113 c6144_i32
  let c0_i32_360 : BitVec 32 := 0#32
  ![v114.toNat, 0]
def k0_dev25 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v125 : BitVec 32 := Scalar.extui v51
  let c0_i32_64 : BitVec 32 := 0#32
  let v126 : BitVec 1 := Scalar.cmpi .ne v125 c0_i32_64
  v126

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_59 : BitVec 32 := 16384#32
  let v115 : BitVec 32 := Scalar.muli v49 c16384_i32_59
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v116 : BitVec 32 := Scalar.addi v115 v9
  let c6144_i32_60 : BitVec 32 := 6144#32
  let v117 : BitVec 32 := Scalar.addi v116 c6144_i32_60
  let c0_i32_361 : BitVec 32 := 0#32
  ![v117.toNat, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let c0_i32 : BitVec 32 := 0#32
  let v12 : BitVec 1 := Scalar.cmpi .sgt v8 c0_i32
  let v127 : BitVec 1 := Scalar.andi v51 v12
  let v128 : BitVec 32 := Scalar.extui v127
  let c0_i32_65 : BitVec 32 := 0#32
  let v129 : BitVec 1 := Scalar.cmpi .ne v128 c0_i32_65
  v129

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_59 : BitVec 32 := 16384#32
  let v115 : BitVec 32 := Scalar.muli v49 c16384_i32_59
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v116 : BitVec 32 := Scalar.addi v115 v9
  let c6144_i32_60 : BitVec 32 := 6144#32
  let v117 : BitVec 32 := Scalar.addi v116 c6144_i32_60
  let c0_i32_360 : BitVec 32 := 0#32
  ![v117.toNat, 0]
def k0_dev26 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c3_i32_29 : BitVec 32 := 3#32
  let v51 : BitVec 1 := Scalar.cmpi .sle v49 c3_i32_29
  let v130 : BitVec 32 := Scalar.extui v51
  let c0_i32_66 : BitVec 32 := 0#32
  let v131 : BitVec 1 := Scalar.cmpi .ne v130 c0_i32_66
  v131

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v48 : BitVec 32 := Scalar.addi v8 c1_i32_26
  let c0_i32_27 : BitVec 32 := 0#32
  let v49 : BitVec 32 := Scalar.addi v48 c0_i32_27
  let c16384_i32_59 : BitVec 32 := 16384#32
  let v115 : BitVec 32 := Scalar.muli v49 c16384_i32_59
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v116 : BitVec 32 := Scalar.addi v115 v9
  let c6144_i32_60 : BitVec 32 := 6144#32
  let v117 : BitVec 32 := Scalar.addi v116 c6144_i32_60
  let c0_i32_360 : BitVec 32 := 0#32
  ![v117.toNat, 0]
def k0_dev27 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v144 : BitVec 32 := Scalar.extui v136
  let c0_i32_77 : BitVec 32 := 0#32
  let v145 : BitVec 1 := Scalar.cmpi .ne v144 c0_i32_77
  v145

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_73 : BitVec 32 := 16384#32
  let v138 : BitVec 32 := Scalar.muli v133 c16384_i32_73
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v139 : BitVec 32 := Scalar.addi v138 v9
  let c0_i32_74 : BitVec 32 := 0#32
  let v140 : BitVec 32 := Scalar.addi v139 c0_i32_74
  let c0_i32_361 : BitVec 32 := 0#32
  ![v140.toNat, 0]
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let c3_i32 : BitVec 32 := 3#32
  let v13 : BitVec 1 := Scalar.cmpi .slt v8 c3_i32
  let v146 : BitVec 1 := Scalar.andi v136 v13
  let v147 : BitVec 32 := Scalar.extui v146
  let c0_i32_78 : BitVec 32 := 0#32
  let v148 : BitVec 1 := Scalar.cmpi .ne v147 c0_i32_78
  v148

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_73 : BitVec 32 := 16384#32
  let v138 : BitVec 32 := Scalar.muli v133 c16384_i32_73
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v139 : BitVec 32 := Scalar.addi v138 v9
  let c0_i32_74 : BitVec 32 := 0#32
  let v140 : BitVec 32 := Scalar.addi v139 c0_i32_74
  let c0_i32_360 : BitVec 32 := 0#32
  ![v140.toNat, 0]
def k0_dev28 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v149 : BitVec 32 := Scalar.extui v136
  let c0_i32_79 : BitVec 32 := 0#32
  let v150 : BitVec 1 := Scalar.cmpi .ne v149 c0_i32_79
  v150

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_73 : BitVec 32 := 16384#32
  let v138 : BitVec 32 := Scalar.muli v133 c16384_i32_73
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v139 : BitVec 32 := Scalar.addi v138 v9
  let c0_i32_74 : BitVec 32 := 0#32
  let v140 : BitVec 32 := Scalar.addi v139 c0_i32_74
  let c0_i32_360 : BitVec 32 := 0#32
  ![v140.toNat, 0]
def k0_dev29 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v151 : BitVec 32 := Scalar.extui v137
  let c0_i32_80 : BitVec 32 := 0#32
  let v152 : BitVec 1 := Scalar.cmpi .ne v151 c0_i32_80
  v152

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_75 : BitVec 32 := 16384#32
  let v141 : BitVec 32 := Scalar.muli v135 c16384_i32_75
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v142 : BitVec 32 := Scalar.addi v141 v9
  let c0_i32_76 : BitVec 32 := 0#32
  let v143 : BitVec 32 := Scalar.addi v142 c0_i32_76
  let c0_i32_361 : BitVec 32 := 0#32
  ![v143.toNat, 0]
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let c0_i32 : BitVec 32 := 0#32
  let v12 : BitVec 1 := Scalar.cmpi .sgt v8 c0_i32
  let v153 : BitVec 1 := Scalar.andi v137 v12
  let v154 : BitVec 32 := Scalar.extui v153
  let c0_i32_81 : BitVec 32 := 0#32
  let v155 : BitVec 1 := Scalar.cmpi .ne v154 c0_i32_81
  v155

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_75 : BitVec 32 := 16384#32
  let v141 : BitVec 32 := Scalar.muli v135 c16384_i32_75
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v142 : BitVec 32 := Scalar.addi v141 v9
  let c0_i32_76 : BitVec 32 := 0#32
  let v143 : BitVec 32 := Scalar.addi v142 c0_i32_76
  let c0_i32_360 : BitVec 32 := 0#32
  ![v143.toNat, 0]
def k0_dev30 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v156 : BitVec 32 := Scalar.extui v137
  let c0_i32_82 : BitVec 32 := 0#32
  let v157 : BitVec 1 := Scalar.cmpi .ne v156 c0_i32_82
  v157

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_75 : BitVec 32 := 16384#32
  let v141 : BitVec 32 := Scalar.muli v135 c16384_i32_75
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v142 : BitVec 32 := Scalar.addi v141 v9
  let c0_i32_76 : BitVec 32 := 0#32
  let v143 : BitVec 32 := Scalar.addi v142 c0_i32_76
  let c0_i32_360 : BitVec 32 := 0#32
  ![v143.toNat, 0]
def k0_dev31 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v164 : BitVec 32 := Scalar.extui v136
  let c0_i32_87 : BitVec 32 := 0#32
  let v165 : BitVec 1 := Scalar.cmpi .ne v164 c0_i32_87
  v165

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_83 : BitVec 32 := 16384#32
  let v158 : BitVec 32 := Scalar.muli v133 c16384_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v159 : BitVec 32 := Scalar.addi v158 v9
  let c2048_i32_84 : BitVec 32 := 2048#32
  let v160 : BitVec 32 := Scalar.addi v159 c2048_i32_84
  let c0_i32_360 : BitVec 32 := 0#32
  ![v160.toNat, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let c3_i32 : BitVec 32 := 3#32
  let v13 : BitVec 1 := Scalar.cmpi .slt v8 c3_i32
  let v166 : BitVec 1 := Scalar.andi v136 v13
  let v167 : BitVec 32 := Scalar.extui v166
  let c0_i32_88 : BitVec 32 := 0#32
  let v168 : BitVec 1 := Scalar.cmpi .ne v167 c0_i32_88
  v168

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_83 : BitVec 32 := 16384#32
  let v158 : BitVec 32 := Scalar.muli v133 c16384_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v159 : BitVec 32 := Scalar.addi v158 v9
  let c2048_i32_84 : BitVec 32 := 2048#32
  let v160 : BitVec 32 := Scalar.addi v159 c2048_i32_84
  let c0_i32_360 : BitVec 32 := 0#32
  ![v160.toNat, 0]
def k0_dev32 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v169 : BitVec 32 := Scalar.extui v136
  let c0_i32_89 : BitVec 32 := 0#32
  let v170 : BitVec 1 := Scalar.cmpi .ne v169 c0_i32_89
  v170

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_83 : BitVec 32 := 16384#32
  let v158 : BitVec 32 := Scalar.muli v133 c16384_i32_83
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v159 : BitVec 32 := Scalar.addi v158 v9
  let c2048_i32_84 : BitVec 32 := 2048#32
  let v160 : BitVec 32 := Scalar.addi v159 c2048_i32_84
  let c0_i32_360 : BitVec 32 := 0#32
  ![v160.toNat, 0]
def k0_dev33 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v171 : BitVec 32 := Scalar.extui v137
  let c0_i32_90 : BitVec 32 := 0#32
  let v172 : BitVec 1 := Scalar.cmpi .ne v171 c0_i32_90
  v172

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_85 : BitVec 32 := 16384#32
  let v161 : BitVec 32 := Scalar.muli v135 c16384_i32_85
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v162 : BitVec 32 := Scalar.addi v161 v9
  let c2048_i32_86 : BitVec 32 := 2048#32
  let v163 : BitVec 32 := Scalar.addi v162 c2048_i32_86
  let c0_i32_360 : BitVec 32 := 0#32
  ![v163.toNat, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let c0_i32 : BitVec 32 := 0#32
  let v12 : BitVec 1 := Scalar.cmpi .sgt v8 c0_i32
  let v173 : BitVec 1 := Scalar.andi v137 v12
  let v174 : BitVec 32 := Scalar.extui v173
  let c0_i32_91 : BitVec 32 := 0#32
  let v175 : BitVec 1 := Scalar.cmpi .ne v174 c0_i32_91
  v175

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_85 : BitVec 32 := 16384#32
  let v161 : BitVec 32 := Scalar.muli v135 c16384_i32_85
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v162 : BitVec 32 := Scalar.addi v161 v9
  let c2048_i32_86 : BitVec 32 := 2048#32
  let v163 : BitVec 32 := Scalar.addi v162 c2048_i32_86
  let c0_i32_360 : BitVec 32 := 0#32
  ![v163.toNat, 0]
def k0_dev34 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v176 : BitVec 32 := Scalar.extui v137
  let c0_i32_92 : BitVec 32 := 0#32
  let v177 : BitVec 1 := Scalar.cmpi .ne v176 c0_i32_92
  v177

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_85 : BitVec 32 := 16384#32
  let v161 : BitVec 32 := Scalar.muli v135 c16384_i32_85
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v162 : BitVec 32 := Scalar.addi v161 v9
  let c2048_i32_86 : BitVec 32 := 2048#32
  let v163 : BitVec 32 := Scalar.addi v162 c2048_i32_86
  let c0_i32_360 : BitVec 32 := 0#32
  ![v163.toNat, 0]
def k0_dev35 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v184 : BitVec 32 := Scalar.extui v136
  let c0_i32_97 : BitVec 32 := 0#32
  let v185 : BitVec 1 := Scalar.cmpi .ne v184 c0_i32_97
  v185

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_93 : BitVec 32 := 16384#32
  let v178 : BitVec 32 := Scalar.muli v133 c16384_i32_93
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v179 : BitVec 32 := Scalar.addi v178 v9
  let c4096_i32_94 : BitVec 32 := 4096#32
  let v180 : BitVec 32 := Scalar.addi v179 c4096_i32_94
  let c0_i32_360 : BitVec 32 := 0#32
  ![v180.toNat, 0]
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let c3_i32 : BitVec 32 := 3#32
  let v13 : BitVec 1 := Scalar.cmpi .slt v8 c3_i32
  let v186 : BitVec 1 := Scalar.andi v136 v13
  let v187 : BitVec 32 := Scalar.extui v186
  let c0_i32_98 : BitVec 32 := 0#32
  let v188 : BitVec 1 := Scalar.cmpi .ne v187 c0_i32_98
  v188

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_93 : BitVec 32 := 16384#32
  let v178 : BitVec 32 := Scalar.muli v133 c16384_i32_93
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v179 : BitVec 32 := Scalar.addi v178 v9
  let c4096_i32_94 : BitVec 32 := 4096#32
  let v180 : BitVec 32 := Scalar.addi v179 c4096_i32_94
  let c0_i32_360 : BitVec 32 := 0#32
  ![v180.toNat, 0]
def k0_dev36 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v189 : BitVec 32 := Scalar.extui v136
  let c0_i32_99 : BitVec 32 := 0#32
  let v190 : BitVec 1 := Scalar.cmpi .ne v189 c0_i32_99
  v190

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_93 : BitVec 32 := 16384#32
  let v178 : BitVec 32 := Scalar.muli v133 c16384_i32_93
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v179 : BitVec 32 := Scalar.addi v178 v9
  let c4096_i32_94 : BitVec 32 := 4096#32
  let v180 : BitVec 32 := Scalar.addi v179 c4096_i32_94
  let c0_i32_360 : BitVec 32 := 0#32
  ![v180.toNat, 0]
def k0_dev37 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v191 : BitVec 32 := Scalar.extui v137
  let c0_i32_100 : BitVec 32 := 0#32
  let v192 : BitVec 1 := Scalar.cmpi .ne v191 c0_i32_100
  v192

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_95 : BitVec 32 := 16384#32
  let v181 : BitVec 32 := Scalar.muli v135 c16384_i32_95
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v182 : BitVec 32 := Scalar.addi v181 v9
  let c4096_i32_96 : BitVec 32 := 4096#32
  let v183 : BitVec 32 := Scalar.addi v182 c4096_i32_96
  let c0_i32_360 : BitVec 32 := 0#32
  ![v183.toNat, 0]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let c0_i32 : BitVec 32 := 0#32
  let v12 : BitVec 1 := Scalar.cmpi .sgt v8 c0_i32
  let v193 : BitVec 1 := Scalar.andi v137 v12
  let v194 : BitVec 32 := Scalar.extui v193
  let c0_i32_101 : BitVec 32 := 0#32
  let v195 : BitVec 1 := Scalar.cmpi .ne v194 c0_i32_101
  v195

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_95 : BitVec 32 := 16384#32
  let v181 : BitVec 32 := Scalar.muli v135 c16384_i32_95
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v182 : BitVec 32 := Scalar.addi v181 v9
  let c4096_i32_96 : BitVec 32 := 4096#32
  let v183 : BitVec 32 := Scalar.addi v182 c4096_i32_96
  let c0_i32_360 : BitVec 32 := 0#32
  ![v183.toNat, 0]
def k0_dev38 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v196 : BitVec 32 := Scalar.extui v137
  let c0_i32_102 : BitVec 32 := 0#32
  let v197 : BitVec 1 := Scalar.cmpi .ne v196 c0_i32_102
  v197

def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_95 : BitVec 32 := 16384#32
  let v181 : BitVec 32 := Scalar.muli v135 c16384_i32_95
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v182 : BitVec 32 := Scalar.addi v181 v9
  let c4096_i32_96 : BitVec 32 := 4096#32
  let v183 : BitVec 32 := Scalar.addi v182 c4096_i32_96
  let c0_i32_360 : BitVec 32 := 0#32
  ![v183.toNat, 0]
def k0_dev39 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v204 : BitVec 32 := Scalar.extui v136
  let c0_i32_107 : BitVec 32 := 0#32
  let v205 : BitVec 1 := Scalar.cmpi .ne v204 c0_i32_107
  v205

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_103 : BitVec 32 := 16384#32
  let v198 : BitVec 32 := Scalar.muli v133 c16384_i32_103
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v199 : BitVec 32 := Scalar.addi v198 v9
  let c6144_i32_104 : BitVec 32 := 6144#32
  let v200 : BitVec 32 := Scalar.addi v199 c6144_i32_104
  let c0_i32_360 : BitVec 32 := 0#32
  ![v200.toNat, 0]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let c3_i32 : BitVec 32 := 3#32
  let v13 : BitVec 1 := Scalar.cmpi .slt v8 c3_i32
  let v206 : BitVec 1 := Scalar.andi v136 v13
  let v207 : BitVec 32 := Scalar.extui v206
  let c0_i32_108 : BitVec 32 := 0#32
  let v208 : BitVec 1 := Scalar.cmpi .ne v207 c0_i32_108
  v208

def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_103 : BitVec 32 := 16384#32
  let v198 : BitVec 32 := Scalar.muli v133 c16384_i32_103
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v199 : BitVec 32 := Scalar.addi v198 v9
  let c6144_i32_104 : BitVec 32 := 6144#32
  let v200 : BitVec 32 := Scalar.addi v199 c6144_i32_104
  let c0_i32_360 : BitVec 32 := 0#32
  ![v200.toNat, 0]
def k0_dev40 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v16 : BitVec 32 := Scalar.addi v8 c1_i32_6
  let c1_i32_359 : BitVec 32 := 1#32
  let v625 : BitVec 32 := Scalar.muli v16 c1_i32_359
  let v626 : BitVec 32 := Scalar.addi v624 v625
  v626.toNat
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c0_i32_71 : BitVec 32 := 0#32
  let v136 : BitVec 1 := Scalar.cmpi .sge v133 c0_i32_71
  let v209 : BitVec 32 := Scalar.extui v136
  let c0_i32_109 : BitVec 32 := 0#32
  let v210 : BitVec 1 := Scalar.cmpi .ne v209 c0_i32_109
  v210

def k0_off62 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v132 : BitVec 32 := Scalar.subi v8 c1_i32_67
  let c1_i32_68 : BitVec 32 := 1#32
  let v133 : BitVec 32 := Scalar.subi v132 c1_i32_68
  let c16384_i32_103 : BitVec 32 := 16384#32
  let v198 : BitVec 32 := Scalar.muli v133 c16384_i32_103
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v199 : BitVec 32 := Scalar.addi v198 v9
  let c6144_i32_104 : BitVec 32 := 6144#32
  let v200 : BitVec 32 := Scalar.addi v199 c6144_i32_104
  let c0_i32_360 : BitVec 32 := 0#32
  ![v200.toNat, 0]
def k0_dev41 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v211 : BitVec 32 := Scalar.extui v137
  let c0_i32_110 : BitVec 32 := 0#32
  let v212 : BitVec 1 := Scalar.cmpi .ne v211 c0_i32_110
  v212

def k0_off63 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_105 : BitVec 32 := 16384#32
  let v201 : BitVec 32 := Scalar.muli v135 c16384_i32_105
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v202 : BitVec 32 := Scalar.addi v201 v9
  let c6144_i32_106 : BitVec 32 := 6144#32
  let v203 : BitVec 32 := Scalar.addi v202 c6144_i32_106
  let c0_i32_360 : BitVec 32 := 0#32
  ![v203.toNat, 0]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let c0_i32 : BitVec 32 := 0#32
  let v12 : BitVec 1 := Scalar.cmpi .sgt v8 c0_i32
  let v213 : BitVec 1 := Scalar.andi v137 v12
  let v214 : BitVec 32 := Scalar.extui v213
  let c0_i32_111 : BitVec 32 := 0#32
  let v215 : BitVec 1 := Scalar.cmpi .ne v214 c0_i32_111
  v215

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_105 : BitVec 32 := 16384#32
  let v201 : BitVec 32 := Scalar.muli v135 c16384_i32_105
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v202 : BitVec 32 := Scalar.addi v201 v9
  let c6144_i32_106 : BitVec 32 := 6144#32
  let v203 : BitVec 32 := Scalar.addi v202 c6144_i32_106
  let c0_i32_360 : BitVec 32 := 0#32
  ![v203.toNat, 0]
def k0_dev42 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v621 : BitVec 32 := Scalar.muli v2 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.subi v8 c1_i32_5
  let c1_i32_359 : BitVec 32 := 1#32
  let v625 : BitVec 32 := Scalar.muli v15 c1_i32_359
  let v626 : BitVec 32 := Scalar.addi v624 v625
  v626.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c3_i32_72 : BitVec 32 := 3#32
  let v137 : BitVec 1 := Scalar.cmpi .sle v135 c3_i32_72
  let v216 : BitVec 32 := Scalar.extui v137
  let c0_i32_112 : BitVec 32 := 0#32
  let v217 : BitVec 1 := Scalar.cmpi .ne v216 c0_i32_112
  v217

def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v134 : BitVec 32 := Scalar.addi v8 c1_i32_69
  let c1_i32_70 : BitVec 32 := 1#32
  let v135 : BitVec 32 := Scalar.addi v134 c1_i32_70
  let c16384_i32_105 : BitVec 32 := 16384#32
  let v201 : BitVec 32 := Scalar.muli v135 c16384_i32_105
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v202 : BitVec 32 := Scalar.addi v201 v9
  let c6144_i32_106 : BitVec 32 := 6144#32
  let v203 : BitVec 32 := Scalar.addi v202 c6144_i32_106
  let c0_i32_360 : BitVec 32 := 0#32
  ![v203.toNat, 0]
def k0_dev43 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v230 : BitVec 32 := Scalar.extui v222
  let c0_i32_123 : BitVec 32 := 0#32
  let v231 : BitVec 1 := Scalar.cmpi .ne v230 c0_i32_123
  v231

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_119 : BitVec 32 := 16384#32
  let v224 : BitVec 32 := Scalar.muli v219 c16384_i32_119
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v225 : BitVec 32 := Scalar.addi v224 v9
  let c0_i32_120 : BitVec 32 := 0#32
  let v226 : BitVec 32 := Scalar.addi v225 c0_i32_120
  let c0_i32_360 : BitVec 32 := 0#32
  ![v226.toNat, 0]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v232 : BitVec 32 := Scalar.extui v222
  let c0_i32_124 : BitVec 32 := 0#32
  let v233 : BitVec 1 := Scalar.cmpi .ne v232 c0_i32_124
  v233

def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_119 : BitVec 32 := 16384#32
  let v224 : BitVec 32 := Scalar.muli v219 c16384_i32_119
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v225 : BitVec 32 := Scalar.addi v224 v9
  let c0_i32_120 : BitVec 32 := 0#32
  let v226 : BitVec 32 := Scalar.addi v225 c0_i32_120
  let c0_i32_360 : BitVec 32 := 0#32
  ![v226.toNat, 0]
def k0_dev44 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v234 : BitVec 32 := Scalar.extui v223
  let c0_i32_125 : BitVec 32 := 0#32
  let v235 : BitVec 1 := Scalar.cmpi .ne v234 c0_i32_125
  v235

def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_121 : BitVec 32 := 16384#32
  let v227 : BitVec 32 := Scalar.muli v221 c16384_i32_121
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v228 : BitVec 32 := Scalar.addi v227 v9
  let c0_i32_122 : BitVec 32 := 0#32
  let v229 : BitVec 32 := Scalar.addi v228 c0_i32_122
  let c0_i32_360 : BitVec 32 := 0#32
  ![v229.toNat, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v236 : BitVec 32 := Scalar.extui v223
  let c0_i32_126 : BitVec 32 := 0#32
  let v237 : BitVec 1 := Scalar.cmpi .ne v236 c0_i32_126
  v237

def k0_off69 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_121 : BitVec 32 := 16384#32
  let v227 : BitVec 32 := Scalar.muli v221 c16384_i32_121
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v228 : BitVec 32 := Scalar.addi v227 v9
  let c0_i32_122 : BitVec 32 := 0#32
  let v229 : BitVec 32 := Scalar.addi v228 c0_i32_122
  let c0_i32_360 : BitVec 32 := 0#32
  ![v229.toNat, 0]
def k0_dev45 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v244 : BitVec 32 := Scalar.extui v222
  let c0_i32_131 : BitVec 32 := 0#32
  let v245 : BitVec 1 := Scalar.cmpi .ne v244 c0_i32_131
  v245

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_127 : BitVec 32 := 16384#32
  let v238 : BitVec 32 := Scalar.muli v219 c16384_i32_127
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v239 : BitVec 32 := Scalar.addi v238 v9
  let c2048_i32_128 : BitVec 32 := 2048#32
  let v240 : BitVec 32 := Scalar.addi v239 c2048_i32_128
  let c0_i32_360 : BitVec 32 := 0#32
  ![v240.toNat, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v246 : BitVec 32 := Scalar.extui v222
  let c0_i32_132 : BitVec 32 := 0#32
  let v247 : BitVec 1 := Scalar.cmpi .ne v246 c0_i32_132
  v247

def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_127 : BitVec 32 := 16384#32
  let v238 : BitVec 32 := Scalar.muli v219 c16384_i32_127
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v239 : BitVec 32 := Scalar.addi v238 v9
  let c2048_i32_128 : BitVec 32 := 2048#32
  let v240 : BitVec 32 := Scalar.addi v239 c2048_i32_128
  let c0_i32_360 : BitVec 32 := 0#32
  ![v240.toNat, 0]
def k0_dev46 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v248 : BitVec 32 := Scalar.extui v223
  let c0_i32_133 : BitVec 32 := 0#32
  let v249 : BitVec 1 := Scalar.cmpi .ne v248 c0_i32_133
  v249

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_129 : BitVec 32 := 16384#32
  let v241 : BitVec 32 := Scalar.muli v221 c16384_i32_129
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v242 : BitVec 32 := Scalar.addi v241 v9
  let c2048_i32_130 : BitVec 32 := 2048#32
  let v243 : BitVec 32 := Scalar.addi v242 c2048_i32_130
  let c0_i32_360 : BitVec 32 := 0#32
  ![v243.toNat, 0]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v250 : BitVec 32 := Scalar.extui v223
  let c0_i32_134 : BitVec 32 := 0#32
  let v251 : BitVec 1 := Scalar.cmpi .ne v250 c0_i32_134
  v251

def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_129 : BitVec 32 := 16384#32
  let v241 : BitVec 32 := Scalar.muli v221 c16384_i32_129
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v242 : BitVec 32 := Scalar.addi v241 v9
  let c2048_i32_130 : BitVec 32 := 2048#32
  let v243 : BitVec 32 := Scalar.addi v242 c2048_i32_130
  let c0_i32_360 : BitVec 32 := 0#32
  ![v243.toNat, 0]
def k0_dev47 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v258 : BitVec 32 := Scalar.extui v222
  let c0_i32_139 : BitVec 32 := 0#32
  let v259 : BitVec 1 := Scalar.cmpi .ne v258 c0_i32_139
  v259

def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_135 : BitVec 32 := 16384#32
  let v252 : BitVec 32 := Scalar.muli v219 c16384_i32_135
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v253 : BitVec 32 := Scalar.addi v252 v9
  let c4096_i32_136 : BitVec 32 := 4096#32
  let v254 : BitVec 32 := Scalar.addi v253 c4096_i32_136
  let c0_i32_360 : BitVec 32 := 0#32
  ![v254.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v260 : BitVec 32 := Scalar.extui v222
  let c0_i32_140 : BitVec 32 := 0#32
  let v261 : BitVec 1 := Scalar.cmpi .ne v260 c0_i32_140
  v261

def k0_off75 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_135 : BitVec 32 := 16384#32
  let v252 : BitVec 32 := Scalar.muli v219 c16384_i32_135
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v253 : BitVec 32 := Scalar.addi v252 v9
  let c4096_i32_136 : BitVec 32 := 4096#32
  let v254 : BitVec 32 := Scalar.addi v253 c4096_i32_136
  let c0_i32_360 : BitVec 32 := 0#32
  ![v254.toNat, 0]
def k0_dev48 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v262 : BitVec 32 := Scalar.extui v223
  let c0_i32_141 : BitVec 32 := 0#32
  let v263 : BitVec 1 := Scalar.cmpi .ne v262 c0_i32_141
  v263

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_137 : BitVec 32 := 16384#32
  let v255 : BitVec 32 := Scalar.muli v221 c16384_i32_137
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v256 : BitVec 32 := Scalar.addi v255 v9
  let c4096_i32_138 : BitVec 32 := 4096#32
  let v257 : BitVec 32 := Scalar.addi v256 c4096_i32_138
  let c0_i32_360 : BitVec 32 := 0#32
  ![v257.toNat, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v264 : BitVec 32 := Scalar.extui v223
  let c0_i32_142 : BitVec 32 := 0#32
  let v265 : BitVec 1 := Scalar.cmpi .ne v264 c0_i32_142
  v265

def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_137 : BitVec 32 := 16384#32
  let v255 : BitVec 32 := Scalar.muli v221 c16384_i32_137
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v256 : BitVec 32 := Scalar.addi v255 v9
  let c4096_i32_138 : BitVec 32 := 4096#32
  let v257 : BitVec 32 := Scalar.addi v256 c4096_i32_138
  let c0_i32_360 : BitVec 32 := 0#32
  ![v257.toNat, 0]
def k0_dev49 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v272 : BitVec 32 := Scalar.extui v222
  let c0_i32_147 : BitVec 32 := 0#32
  let v273 : BitVec 1 := Scalar.cmpi .ne v272 c0_i32_147
  v273

def k0_off78 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_143 : BitVec 32 := 16384#32
  let v266 : BitVec 32 := Scalar.muli v219 c16384_i32_143
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v267 : BitVec 32 := Scalar.addi v266 v9
  let c6144_i32_144 : BitVec 32 := 6144#32
  let v268 : BitVec 32 := Scalar.addi v267 c6144_i32_144
  let c0_i32_360 : BitVec 32 := 0#32
  ![v268.toNat, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c0_i32_117 : BitVec 32 := 0#32
  let v222 : BitVec 1 := Scalar.cmpi .sge v219 c0_i32_117
  let v274 : BitVec 32 := Scalar.extui v222
  let c0_i32_148 : BitVec 32 := 0#32
  let v275 : BitVec 1 := Scalar.cmpi .ne v274 c0_i32_148
  v275

def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v218 : BitVec 32 := Scalar.subi v8 c1_i32_113
  let c2_i32_114 : BitVec 32 := 2#32
  let v219 : BitVec 32 := Scalar.subi v218 c2_i32_114
  let c16384_i32_143 : BitVec 32 := 16384#32
  let v266 : BitVec 32 := Scalar.muli v219 c16384_i32_143
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v267 : BitVec 32 := Scalar.addi v266 v9
  let c6144_i32_144 : BitVec 32 := 6144#32
  let v268 : BitVec 32 := Scalar.addi v267 c6144_i32_144
  let c0_i32_360 : BitVec 32 := 0#32
  ![v268.toNat, 0]
def k0_dev50 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v276 : BitVec 32 := Scalar.extui v223
  let c0_i32_149 : BitVec 32 := 0#32
  let v277 : BitVec 1 := Scalar.cmpi .ne v276 c0_i32_149
  v277

def k0_off80 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_145 : BitVec 32 := 16384#32
  let v269 : BitVec 32 := Scalar.muli v221 c16384_i32_145
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v270 : BitVec 32 := Scalar.addi v269 v9
  let c6144_i32_146 : BitVec 32 := 6144#32
  let v271 : BitVec 32 := Scalar.addi v270 c6144_i32_146
  let c0_i32_360 : BitVec 32 := 0#32
  ![v271.toNat, 0]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c3_i32_118 : BitVec 32 := 3#32
  let v223 : BitVec 1 := Scalar.cmpi .sle v221 c3_i32_118
  let v278 : BitVec 32 := Scalar.extui v223
  let c0_i32_150 : BitVec 32 := 0#32
  let v279 : BitVec 1 := Scalar.cmpi .ne v278 c0_i32_150
  v279

def k0_off81 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_115 : BitVec 32 := 1#32
  let v220 : BitVec 32 := Scalar.addi v8 c1_i32_115
  let c2_i32_116 : BitVec 32 := 2#32
  let v221 : BitVec 32 := Scalar.addi v220 c2_i32_116
  let c16384_i32_145 : BitVec 32 := 16384#32
  let v269 : BitVec 32 := Scalar.muli v221 c16384_i32_145
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v270 : BitVec 32 := Scalar.addi v269 v9
  let c6144_i32_146 : BitVec 32 := 6144#32
  let v271 : BitVec 32 := Scalar.addi v270 c6144_i32_146
  let c0_i32_360 : BitVec 32 := 0#32
  ![v271.toNat, 0]
def k0_dev51 (d0 : Dev nD) : Nat :=
  let c0_i32_357 : BitVec 32 := 0#32
  let c1_i32_4 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 32 := Scalar.subi c1_i32_4 v2
  let c16_i32_356 : BitVec 32 := 16#32
  let v621 : BitVec 32 := Scalar.muli v14 c16_i32_356
  let v622 : BitVec 32 := Scalar.addi c0_i32_357 v621
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v623 : BitVec 32 := Scalar.muli v5 c4_i32_358
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v625 : BitVec 32 := Scalar.muli v8 c1_i32_359
  let v626 : BitVec 32 := Scalar.addi v624 v625
  v626.toNat
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c0_i32_155 : BitVec 32 := 0#32
  let v284 : BitVec 1 := Scalar.cmpi .sge v281 c0_i32_155
  let v289 : BitVec 32 := Scalar.extui v284
  let c0_i32_159 : BitVec 32 := 0#32
  let v290 : BitVec 1 := Scalar.cmpi .ne v289 c0_i32_159
  v290

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c16384_i32_157 : BitVec 32 := 16384#32
  let v286 : BitVec 32 := Scalar.muli v281 c16384_i32_157
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v287 : BitVec 32 := Scalar.addi v286 v11
  let c0_i32_158 : BitVec 32 := 0#32
  let v288 : BitVec 32 := Scalar.addi v287 c0_i32_158
  let c0_i32_360 : BitVec 32 := 0#32
  ![v288.toNat, 0]
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c3_i32_156 : BitVec 32 := 3#32
  let v285 : BitVec 1 := Scalar.cmpi .sle v283 c3_i32_156
  let v294 : BitVec 32 := Scalar.extui v285
  let c0_i32_162 : BitVec 32 := 0#32
  let v295 : BitVec 1 := Scalar.cmpi .ne v294 c0_i32_162
  v295

def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c16384_i32_160 : BitVec 32 := 16384#32
  let v291 : BitVec 32 := Scalar.muli v283 c16384_i32_160
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v292 : BitVec 32 := Scalar.addi v291 v11
  let c0_i32_161 : BitVec 32 := 0#32
  let v293 : BitVec 32 := Scalar.addi v292 c0_i32_161
  let c0_i32_360 : BitVec 32 := 0#32
  ![v293.toNat, 0]
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c0_i32_155 : BitVec 32 := 0#32
  let v284 : BitVec 1 := Scalar.cmpi .sge v281 c0_i32_155
  let v299 : BitVec 32 := Scalar.extui v284
  let c0_i32_165 : BitVec 32 := 0#32
  let v300 : BitVec 1 := Scalar.cmpi .ne v299 c0_i32_165
  v300

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c16384_i32_163 : BitVec 32 := 16384#32
  let v296 : BitVec 32 := Scalar.muli v281 c16384_i32_163
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v297 : BitVec 32 := Scalar.addi v296 v11
  let c2048_i32_164 : BitVec 32 := 2048#32
  let v298 : BitVec 32 := Scalar.addi v297 c2048_i32_164
  let c0_i32_360 : BitVec 32 := 0#32
  ![v298.toNat, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c3_i32_156 : BitVec 32 := 3#32
  let v285 : BitVec 1 := Scalar.cmpi .sle v283 c3_i32_156
  let v304 : BitVec 32 := Scalar.extui v285
  let c0_i32_168 : BitVec 32 := 0#32
  let v305 : BitVec 1 := Scalar.cmpi .ne v304 c0_i32_168
  v305

def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c16384_i32_166 : BitVec 32 := 16384#32
  let v301 : BitVec 32 := Scalar.muli v283 c16384_i32_166
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v302 : BitVec 32 := Scalar.addi v301 v11
  let c2048_i32_167 : BitVec 32 := 2048#32
  let v303 : BitVec 32 := Scalar.addi v302 c2048_i32_167
  let c0_i32_360 : BitVec 32 := 0#32
  ![v303.toNat, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c0_i32_155 : BitVec 32 := 0#32
  let v284 : BitVec 1 := Scalar.cmpi .sge v281 c0_i32_155
  let v309 : BitVec 32 := Scalar.extui v284
  let c0_i32_171 : BitVec 32 := 0#32
  let v310 : BitVec 1 := Scalar.cmpi .ne v309 c0_i32_171
  v310

def k0_off86 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c16384_i32_169 : BitVec 32 := 16384#32
  let v306 : BitVec 32 := Scalar.muli v281 c16384_i32_169
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v307 : BitVec 32 := Scalar.addi v306 v11
  let c4096_i32_170 : BitVec 32 := 4096#32
  let v308 : BitVec 32 := Scalar.addi v307 c4096_i32_170
  let c0_i32_360 : BitVec 32 := 0#32
  ![v308.toNat, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c3_i32_156 : BitVec 32 := 3#32
  let v285 : BitVec 1 := Scalar.cmpi .sle v283 c3_i32_156
  let v314 : BitVec 32 := Scalar.extui v285
  let c0_i32_174 : BitVec 32 := 0#32
  let v315 : BitVec 1 := Scalar.cmpi .ne v314 c0_i32_174
  v315

def k0_off87 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c16384_i32_172 : BitVec 32 := 16384#32
  let v311 : BitVec 32 := Scalar.muli v283 c16384_i32_172
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v312 : BitVec 32 := Scalar.addi v311 v11
  let c4096_i32_173 : BitVec 32 := 4096#32
  let v313 : BitVec 32 := Scalar.addi v312 c4096_i32_173
  let c0_i32_360 : BitVec 32 := 0#32
  ![v313.toNat, 0]
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c0_i32_155 : BitVec 32 := 0#32
  let v284 : BitVec 1 := Scalar.cmpi .sge v281 c0_i32_155
  let v319 : BitVec 32 := Scalar.extui v284
  let c0_i32_177 : BitVec 32 := 0#32
  let v320 : BitVec 1 := Scalar.cmpi .ne v319 c0_i32_177
  v320

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v280 : BitVec 32 := Scalar.subi v8 c1_i32_151
  let c0_i32_152 : BitVec 32 := 0#32
  let v281 : BitVec 32 := Scalar.subi v280 c0_i32_152
  let c16384_i32_175 : BitVec 32 := 16384#32
  let v316 : BitVec 32 := Scalar.muli v281 c16384_i32_175
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v317 : BitVec 32 := Scalar.addi v316 v11
  let c6144_i32_176 : BitVec 32 := 6144#32
  let v318 : BitVec 32 := Scalar.addi v317 c6144_i32_176
  let c0_i32_360 : BitVec 32 := 0#32
  ![v318.toNat, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c3_i32_156 : BitVec 32 := 3#32
  let v285 : BitVec 1 := Scalar.cmpi .sle v283 c3_i32_156
  let v324 : BitVec 32 := Scalar.extui v285
  let c0_i32_180 : BitVec 32 := 0#32
  let v325 : BitVec 1 := Scalar.cmpi .ne v324 c0_i32_180
  v325

def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v282 : BitVec 32 := Scalar.addi v8 c1_i32_153
  let c0_i32_154 : BitVec 32 := 0#32
  let v283 : BitVec 32 := Scalar.addi v282 c0_i32_154
  let c16384_i32_178 : BitVec 32 := 16384#32
  let v321 : BitVec 32 := Scalar.muli v283 c16384_i32_178
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v322 : BitVec 32 := Scalar.addi v321 v11
  let c6144_i32_179 : BitVec 32 := 6144#32
  let v323 : BitVec 32 := Scalar.addi v322 c6144_i32_179
  let c0_i32_360 : BitVec 32 := 0#32
  ![v323.toNat, 0]
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c0_i32_185 : BitVec 32 := 0#32
  let v330 : BitVec 1 := Scalar.cmpi .sge v327 c0_i32_185
  let v335 : BitVec 32 := Scalar.extui v330
  let c0_i32_189 : BitVec 32 := 0#32
  let v336 : BitVec 1 := Scalar.cmpi .ne v335 c0_i32_189
  v336

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c16384_i32_187 : BitVec 32 := 16384#32
  let v332 : BitVec 32 := Scalar.muli v327 c16384_i32_187
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v333 : BitVec 32 := Scalar.addi v332 v11
  let c0_i32_188 : BitVec 32 := 0#32
  let v334 : BitVec 32 := Scalar.addi v333 c0_i32_188
  let c0_i32_360 : BitVec 32 := 0#32
  ![v334.toNat, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c3_i32_186 : BitVec 32 := 3#32
  let v331 : BitVec 1 := Scalar.cmpi .sle v329 c3_i32_186
  let v340 : BitVec 32 := Scalar.extui v331
  let c0_i32_192 : BitVec 32 := 0#32
  let v341 : BitVec 1 := Scalar.cmpi .ne v340 c0_i32_192
  v341

def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c16384_i32_190 : BitVec 32 := 16384#32
  let v337 : BitVec 32 := Scalar.muli v329 c16384_i32_190
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v338 : BitVec 32 := Scalar.addi v337 v11
  let c0_i32_191 : BitVec 32 := 0#32
  let v339 : BitVec 32 := Scalar.addi v338 c0_i32_191
  let c0_i32_360 : BitVec 32 := 0#32
  ![v339.toNat, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c0_i32_185 : BitVec 32 := 0#32
  let v330 : BitVec 1 := Scalar.cmpi .sge v327 c0_i32_185
  let v345 : BitVec 32 := Scalar.extui v330
  let c0_i32_195 : BitVec 32 := 0#32
  let v346 : BitVec 1 := Scalar.cmpi .ne v345 c0_i32_195
  v346

def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c16384_i32_193 : BitVec 32 := 16384#32
  let v342 : BitVec 32 := Scalar.muli v327 c16384_i32_193
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v343 : BitVec 32 := Scalar.addi v342 v11
  let c2048_i32_194 : BitVec 32 := 2048#32
  let v344 : BitVec 32 := Scalar.addi v343 c2048_i32_194
  let c0_i32_360 : BitVec 32 := 0#32
  ![v344.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c3_i32_186 : BitVec 32 := 3#32
  let v331 : BitVec 1 := Scalar.cmpi .sle v329 c3_i32_186
  let v350 : BitVec 32 := Scalar.extui v331
  let c0_i32_198 : BitVec 32 := 0#32
  let v351 : BitVec 1 := Scalar.cmpi .ne v350 c0_i32_198
  v351

def k0_off93 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c16384_i32_196 : BitVec 32 := 16384#32
  let v347 : BitVec 32 := Scalar.muli v329 c16384_i32_196
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v348 : BitVec 32 := Scalar.addi v347 v11
  let c2048_i32_197 : BitVec 32 := 2048#32
  let v349 : BitVec 32 := Scalar.addi v348 c2048_i32_197
  let c0_i32_360 : BitVec 32 := 0#32
  ![v349.toNat, 0]
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c0_i32_185 : BitVec 32 := 0#32
  let v330 : BitVec 1 := Scalar.cmpi .sge v327 c0_i32_185
  let v355 : BitVec 32 := Scalar.extui v330
  let c0_i32_201 : BitVec 32 := 0#32
  let v356 : BitVec 1 := Scalar.cmpi .ne v355 c0_i32_201
  v356

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c16384_i32_199 : BitVec 32 := 16384#32
  let v352 : BitVec 32 := Scalar.muli v327 c16384_i32_199
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v353 : BitVec 32 := Scalar.addi v352 v11
  let c4096_i32_200 : BitVec 32 := 4096#32
  let v354 : BitVec 32 := Scalar.addi v353 c4096_i32_200
  let c0_i32_360 : BitVec 32 := 0#32
  ![v354.toNat, 0]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c3_i32_186 : BitVec 32 := 3#32
  let v331 : BitVec 1 := Scalar.cmpi .sle v329 c3_i32_186
  let v360 : BitVec 32 := Scalar.extui v331
  let c0_i32_204 : BitVec 32 := 0#32
  let v361 : BitVec 1 := Scalar.cmpi .ne v360 c0_i32_204
  v361

def k0_off95 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c16384_i32_202 : BitVec 32 := 16384#32
  let v357 : BitVec 32 := Scalar.muli v329 c16384_i32_202
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v358 : BitVec 32 := Scalar.addi v357 v11
  let c4096_i32_203 : BitVec 32 := 4096#32
  let v359 : BitVec 32 := Scalar.addi v358 c4096_i32_203
  let c0_i32_360 : BitVec 32 := 0#32
  ![v359.toNat, 0]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c0_i32_185 : BitVec 32 := 0#32
  let v330 : BitVec 1 := Scalar.cmpi .sge v327 c0_i32_185
  let v365 : BitVec 32 := Scalar.extui v330
  let c0_i32_207 : BitVec 32 := 0#32
  let v366 : BitVec 1 := Scalar.cmpi .ne v365 c0_i32_207
  v366

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v326 : BitVec 32 := Scalar.subi v8 c1_i32_181
  let c1_i32_182 : BitVec 32 := 1#32
  let v327 : BitVec 32 := Scalar.subi v326 c1_i32_182
  let c16384_i32_205 : BitVec 32 := 16384#32
  let v362 : BitVec 32 := Scalar.muli v327 c16384_i32_205
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v363 : BitVec 32 := Scalar.addi v362 v11
  let c6144_i32_206 : BitVec 32 := 6144#32
  let v364 : BitVec 32 := Scalar.addi v363 c6144_i32_206
  let c0_i32_360 : BitVec 32 := 0#32
  ![v364.toNat, 0]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c3_i32_186 : BitVec 32 := 3#32
  let v331 : BitVec 1 := Scalar.cmpi .sle v329 c3_i32_186
  let v370 : BitVec 32 := Scalar.extui v331
  let c0_i32_210 : BitVec 32 := 0#32
  let v371 : BitVec 1 := Scalar.cmpi .ne v370 c0_i32_210
  v371

def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v328 : BitVec 32 := Scalar.addi v8 c1_i32_183
  let c1_i32_184 : BitVec 32 := 1#32
  let v329 : BitVec 32 := Scalar.addi v328 c1_i32_184
  let c16384_i32_208 : BitVec 32 := 16384#32
  let v367 : BitVec 32 := Scalar.muli v329 c16384_i32_208
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v368 : BitVec 32 := Scalar.addi v367 v11
  let c6144_i32_209 : BitVec 32 := 6144#32
  let v369 : BitVec 32 := Scalar.addi v368 c6144_i32_209
  let c0_i32_360 : BitVec 32 := 0#32
  ![v369.toNat, 0]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c0_i32_215 : BitVec 32 := 0#32
  let v376 : BitVec 1 := Scalar.cmpi .sge v373 c0_i32_215
  let v381 : BitVec 32 := Scalar.extui v376
  let c0_i32_219 : BitVec 32 := 0#32
  let v382 : BitVec 1 := Scalar.cmpi .ne v381 c0_i32_219
  v382

def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c16384_i32_217 : BitVec 32 := 16384#32
  let v378 : BitVec 32 := Scalar.muli v373 c16384_i32_217
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v379 : BitVec 32 := Scalar.addi v378 v11
  let c0_i32_218 : BitVec 32 := 0#32
  let v380 : BitVec 32 := Scalar.addi v379 c0_i32_218
  let c0_i32_360 : BitVec 32 := 0#32
  ![v380.toNat, 0]
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c3_i32_216 : BitVec 32 := 3#32
  let v377 : BitVec 1 := Scalar.cmpi .sle v375 c3_i32_216
  let v386 : BitVec 32 := Scalar.extui v377
  let c0_i32_222 : BitVec 32 := 0#32
  let v387 : BitVec 1 := Scalar.cmpi .ne v386 c0_i32_222
  v387

def k0_off99 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c16384_i32_220 : BitVec 32 := 16384#32
  let v383 : BitVec 32 := Scalar.muli v375 c16384_i32_220
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v384 : BitVec 32 := Scalar.addi v383 v11
  let c0_i32_221 : BitVec 32 := 0#32
  let v385 : BitVec 32 := Scalar.addi v384 c0_i32_221
  let c0_i32_360 : BitVec 32 := 0#32
  ![v385.toNat, 0]
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c0_i32_215 : BitVec 32 := 0#32
  let v376 : BitVec 1 := Scalar.cmpi .sge v373 c0_i32_215
  let v391 : BitVec 32 := Scalar.extui v376
  let c0_i32_225 : BitVec 32 := 0#32
  let v392 : BitVec 1 := Scalar.cmpi .ne v391 c0_i32_225
  v392

def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c16384_i32_223 : BitVec 32 := 16384#32
  let v388 : BitVec 32 := Scalar.muli v373 c16384_i32_223
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v389 : BitVec 32 := Scalar.addi v388 v11
  let c2048_i32_224 : BitVec 32 := 2048#32
  let v390 : BitVec 32 := Scalar.addi v389 c2048_i32_224
  let c0_i32_360 : BitVec 32 := 0#32
  ![v390.toNat, 0]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c3_i32_216 : BitVec 32 := 3#32
  let v377 : BitVec 1 := Scalar.cmpi .sle v375 c3_i32_216
  let v396 : BitVec 32 := Scalar.extui v377
  let c0_i32_228 : BitVec 32 := 0#32
  let v397 : BitVec 1 := Scalar.cmpi .ne v396 c0_i32_228
  v397

def k0_off101 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c16384_i32_226 : BitVec 32 := 16384#32
  let v393 : BitVec 32 := Scalar.muli v375 c16384_i32_226
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v394 : BitVec 32 := Scalar.addi v393 v11
  let c2048_i32_227 : BitVec 32 := 2048#32
  let v395 : BitVec 32 := Scalar.addi v394 c2048_i32_227
  let c0_i32_360 : BitVec 32 := 0#32
  ![v395.toNat, 0]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c0_i32_215 : BitVec 32 := 0#32
  let v376 : BitVec 1 := Scalar.cmpi .sge v373 c0_i32_215
  let v401 : BitVec 32 := Scalar.extui v376
  let c0_i32_231 : BitVec 32 := 0#32
  let v402 : BitVec 1 := Scalar.cmpi .ne v401 c0_i32_231
  v402

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c16384_i32_229 : BitVec 32 := 16384#32
  let v398 : BitVec 32 := Scalar.muli v373 c16384_i32_229
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v399 : BitVec 32 := Scalar.addi v398 v11
  let c4096_i32_230 : BitVec 32 := 4096#32
  let v400 : BitVec 32 := Scalar.addi v399 c4096_i32_230
  let c0_i32_360 : BitVec 32 := 0#32
  ![v400.toNat, 0]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c3_i32_216 : BitVec 32 := 3#32
  let v377 : BitVec 1 := Scalar.cmpi .sle v375 c3_i32_216
  let v406 : BitVec 32 := Scalar.extui v377
  let c0_i32_234 : BitVec 32 := 0#32
  let v407 : BitVec 1 := Scalar.cmpi .ne v406 c0_i32_234
  v407

def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c16384_i32_232 : BitVec 32 := 16384#32
  let v403 : BitVec 32 := Scalar.muli v375 c16384_i32_232
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v404 : BitVec 32 := Scalar.addi v403 v11
  let c4096_i32_233 : BitVec 32 := 4096#32
  let v405 : BitVec 32 := Scalar.addi v404 c4096_i32_233
  let c0_i32_360 : BitVec 32 := 0#32
  ![v405.toNat, 0]
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c0_i32_215 : BitVec 32 := 0#32
  let v376 : BitVec 1 := Scalar.cmpi .sge v373 c0_i32_215
  let v411 : BitVec 32 := Scalar.extui v376
  let c0_i32_237 : BitVec 32 := 0#32
  let v412 : BitVec 1 := Scalar.cmpi .ne v411 c0_i32_237
  v412

def k0_off104 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v372 : BitVec 32 := Scalar.subi v8 c1_i32_211
  let c2_i32_212 : BitVec 32 := 2#32
  let v373 : BitVec 32 := Scalar.subi v372 c2_i32_212
  let c16384_i32_235 : BitVec 32 := 16384#32
  let v408 : BitVec 32 := Scalar.muli v373 c16384_i32_235
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v409 : BitVec 32 := Scalar.addi v408 v11
  let c6144_i32_236 : BitVec 32 := 6144#32
  let v410 : BitVec 32 := Scalar.addi v409 c6144_i32_236
  let c0_i32_360 : BitVec 32 := 0#32
  ![v410.toNat, 0]
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c3_i32_216 : BitVec 32 := 3#32
  let v377 : BitVec 1 := Scalar.cmpi .sle v375 c3_i32_216
  let v416 : BitVec 32 := Scalar.extui v377
  let c0_i32_240 : BitVec 32 := 0#32
  let v417 : BitVec 1 := Scalar.cmpi .ne v416 c0_i32_240
  v417

def k0_off105 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v374 : BitVec 32 := Scalar.addi v8 c1_i32_213
  let c2_i32_214 : BitVec 32 := 2#32
  let v375 : BitVec 32 := Scalar.addi v374 c2_i32_214
  let c16384_i32_238 : BitVec 32 := 16384#32
  let v413 : BitVec 32 := Scalar.muli v375 c16384_i32_238
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_2 v2
  let c8192_i32_3 : BitVec 32 := 8192#32
  let v11 : BitVec 32 := Scalar.muli v10 c8192_i32_3
  let v414 : BitVec 32 := Scalar.addi v413 v11
  let c6144_i32_239 : BitVec 32 := 6144#32
  let v415 : BitVec 32 := Scalar.addi v414 c6144_i32_239
  let c0_i32_360 : BitVec 32 := 0#32
  ![v415.toNat, 0]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v418 : BitVec 32 := Scalar.extui v13
  let c0_i32_241 : BitVec 32 := 0#32
  let v419 : BitVec 1 := Scalar.cmpi .ne v418 c0_i32_241
  v419

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c0_i32_357 : BitVec 32 := 0#32
  let v623 : BitVec 32 := Scalar.addi v622 c0_i32_357
  let c0_i32_362 : BitVec 32 := 0#32
  ![v623.toNat, 0]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v420 : BitVec 32 := Scalar.extui v12
  let c0_i32_242 : BitVec 32 := 0#32
  let v421 : BitVec 1 := Scalar.cmpi .ne v420 c0_i32_242
  v421

def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c0_i32_357 : BitVec 32 := 0#32
  let v623 : BitVec 32 := Scalar.addi v622 c0_i32_357
  let c0_i32_362 : BitVec 32 := 0#32
  ![v623.toNat, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v422 : BitVec 32 := Scalar.extui v13
  let c0_i32_243 : BitVec 32 := 0#32
  let v423 : BitVec 1 := Scalar.cmpi .ne v422 c0_i32_243
  v423

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c2048_i32_357 : BitVec 32 := 2048#32
  let v623 : BitVec 32 := Scalar.addi v622 c2048_i32_357
  let c0_i32_362 : BitVec 32 := 0#32
  ![v623.toNat, 0]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v424 : BitVec 32 := Scalar.extui v12
  let c0_i32_244 : BitVec 32 := 0#32
  let v425 : BitVec 1 := Scalar.cmpi .ne v424 c0_i32_244
  v425

def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c2048_i32_357 : BitVec 32 := 2048#32
  let v623 : BitVec 32 := Scalar.addi v622 c2048_i32_357
  let c0_i32_362 : BitVec 32 := 0#32
  ![v623.toNat, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v426 : BitVec 32 := Scalar.extui v13
  let c0_i32_245 : BitVec 32 := 0#32
  let v427 : BitVec 1 := Scalar.cmpi .ne v426 c0_i32_245
  v427

def k0_off110 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c4096_i32_357 : BitVec 32 := 4096#32
  let v623 : BitVec 32 := Scalar.addi v622 c4096_i32_357
  let c0_i32_362 : BitVec 32 := 0#32
  ![v623.toNat, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v428 : BitVec 32 := Scalar.extui v12
  let c0_i32_246 : BitVec 32 := 0#32
  let v429 : BitVec 1 := Scalar.cmpi .ne v428 c0_i32_246
  v429

def k0_off111 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c4096_i32_357 : BitVec 32 := 4096#32
  let v623 : BitVec 32 := Scalar.addi v622 c4096_i32_357
  let c0_i32_362 : BitVec 32 := 0#32
  ![v623.toNat, 0]
def k0_cond105 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v13 : BitVec 1 := Scalar.cmpi .slt v8 c3_i32
  let v430 : BitVec 32 := Scalar.extui v13
  let c0_i32_247 : BitVec 32 := 0#32
  let v431 : BitVec 1 := Scalar.cmpi .ne v430 c0_i32_247
  v431

def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c6144_i32_357 : BitVec 32 := 6144#32
  let v623 : BitVec 32 := Scalar.addi v622 c6144_i32_357
  let c0_i32_362 : BitVec 32 := 0#32
  ![v623.toNat, 0]
def k0_cond106 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32 : BitVec 32 := 0#32
  let v12 : BitVec 1 := Scalar.cmpi .sgt v8 c0_i32
  let v432 : BitVec 32 := Scalar.extui v12
  let c0_i32_248 : BitVec 32 := 0#32
  let v433 : BitVec 1 := Scalar.cmpi .ne v432 c0_i32_248
  v433

def k0_off113 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32_356 : BitVec 32 := 16384#32
  let v621 : BitVec 32 := Scalar.muli v8 c16384_i32_356
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v622 : BitVec 32 := Scalar.addi v621 v9
  let c6144_i32_357 : BitVec 32 := 6144#32
  let v623 : BitVec 32 := Scalar.addi v622 c6144_i32_357
  let c0_i32_362 : BitVec 32 := 0#32
  ![v623.toNat, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let c3_i32 : BitVec 32 := 3#32
  let v13 : BitVec 1 := Scalar.cmpi .slt v8 c3_i32
  let v446 : BitVec 1 := Scalar.andi v438 v13
  let v447 : BitVec 32 := Scalar.extui v446
  let c0_i32_259 : BitVec 32 := 0#32
  let v448 : BitVec 1 := Scalar.cmpi .ne v447 c0_i32_259
  v448

def k0_off114 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_255 : BitVec 32 := 16384#32
  let v440 : BitVec 32 := Scalar.muli v435 c16384_i32_255
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v441 : BitVec 32 := Scalar.addi v440 v9
  let c0_i32_256 : BitVec 32 := 0#32
  let v442 : BitVec 32 := Scalar.addi v441 c0_i32_256
  let c0_i32_358 : BitVec 32 := 0#32
  ![v442.toNat, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let c0_i32 : BitVec 32 := 0#32
  let v12 : BitVec 1 := Scalar.cmpi .sgt v8 c0_i32
  let v449 : BitVec 1 := Scalar.andi v439 v12
  let v450 : BitVec 32 := Scalar.extui v449
  let c0_i32_260 : BitVec 32 := 0#32
  let v451 : BitVec 1 := Scalar.cmpi .ne v450 c0_i32_260
  v451

def k0_off115 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_257 : BitVec 32 := 16384#32
  let v443 : BitVec 32 := Scalar.muli v437 c16384_i32_257
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v444 : BitVec 32 := Scalar.addi v443 v9
  let c0_i32_258 : BitVec 32 := 0#32
  let v445 : BitVec 32 := Scalar.addi v444 c0_i32_258
  let c0_i32_358 : BitVec 32 := 0#32
  ![v445.toNat, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let v452 : BitVec 32 := Scalar.extui v438
  let c0_i32_261 : BitVec 32 := 0#32
  let v453 : BitVec 1 := Scalar.cmpi .ne v452 c0_i32_261
  v453

def k0_off116 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_255 : BitVec 32 := 16384#32
  let v440 : BitVec 32 := Scalar.muli v435 c16384_i32_255
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v441 : BitVec 32 := Scalar.addi v440 v9
  let c0_i32_256 : BitVec 32 := 0#32
  let v442 : BitVec 32 := Scalar.addi v441 c0_i32_256
  let c0_i32_357 : BitVec 32 := 0#32
  ![v442.toNat, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let v454 : BitVec 32 := Scalar.extui v439
  let c0_i32_262 : BitVec 32 := 0#32
  let v455 : BitVec 1 := Scalar.cmpi .ne v454 c0_i32_262
  v455

def k0_off117 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_257 : BitVec 32 := 16384#32
  let v443 : BitVec 32 := Scalar.muli v437 c16384_i32_257
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v444 : BitVec 32 := Scalar.addi v443 v9
  let c0_i32_258 : BitVec 32 := 0#32
  let v445 : BitVec 32 := Scalar.addi v444 c0_i32_258
  let c0_i32_357 : BitVec 32 := 0#32
  ![v445.toNat, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let c3_i32 : BitVec 32 := 3#32
  let v13 : BitVec 1 := Scalar.cmpi .slt v8 c3_i32
  let v462 : BitVec 1 := Scalar.andi v438 v13
  let v463 : BitVec 32 := Scalar.extui v462
  let c0_i32_267 : BitVec 32 := 0#32
  let v464 : BitVec 1 := Scalar.cmpi .ne v463 c0_i32_267
  v464

def k0_off118 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_263 : BitVec 32 := 16384#32
  let v456 : BitVec 32 := Scalar.muli v435 c16384_i32_263
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v457 : BitVec 32 := Scalar.addi v456 v9
  let c2048_i32_264 : BitVec 32 := 2048#32
  let v458 : BitVec 32 := Scalar.addi v457 c2048_i32_264
  let c0_i32_357 : BitVec 32 := 0#32
  ![v458.toNat, 0]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let c0_i32 : BitVec 32 := 0#32
  let v12 : BitVec 1 := Scalar.cmpi .sgt v8 c0_i32
  let v465 : BitVec 1 := Scalar.andi v439 v12
  let v466 : BitVec 32 := Scalar.extui v465
  let c0_i32_268 : BitVec 32 := 0#32
  let v467 : BitVec 1 := Scalar.cmpi .ne v466 c0_i32_268
  v467

def k0_off119 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_265 : BitVec 32 := 16384#32
  let v459 : BitVec 32 := Scalar.muli v437 c16384_i32_265
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v460 : BitVec 32 := Scalar.addi v459 v9
  let c2048_i32_266 : BitVec 32 := 2048#32
  let v461 : BitVec 32 := Scalar.addi v460 c2048_i32_266
  let c0_i32_357 : BitVec 32 := 0#32
  ![v461.toNat, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let v468 : BitVec 32 := Scalar.extui v438
  let c0_i32_269 : BitVec 32 := 0#32
  let v469 : BitVec 1 := Scalar.cmpi .ne v468 c0_i32_269
  v469

def k0_off120 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_263 : BitVec 32 := 16384#32
  let v456 : BitVec 32 := Scalar.muli v435 c16384_i32_263
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v457 : BitVec 32 := Scalar.addi v456 v9
  let c2048_i32_264 : BitVec 32 := 2048#32
  let v458 : BitVec 32 := Scalar.addi v457 c2048_i32_264
  let c0_i32_357 : BitVec 32 := 0#32
  ![v458.toNat, 0]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let v470 : BitVec 32 := Scalar.extui v439
  let c0_i32_270 : BitVec 32 := 0#32
  let v471 : BitVec 1 := Scalar.cmpi .ne v470 c0_i32_270
  v471

def k0_off121 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_265 : BitVec 32 := 16384#32
  let v459 : BitVec 32 := Scalar.muli v437 c16384_i32_265
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v460 : BitVec 32 := Scalar.addi v459 v9
  let c2048_i32_266 : BitVec 32 := 2048#32
  let v461 : BitVec 32 := Scalar.addi v460 c2048_i32_266
  let c0_i32_357 : BitVec 32 := 0#32
  ![v461.toNat, 0]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let c3_i32 : BitVec 32 := 3#32
  let v13 : BitVec 1 := Scalar.cmpi .slt v8 c3_i32
  let v478 : BitVec 1 := Scalar.andi v438 v13
  let v479 : BitVec 32 := Scalar.extui v478
  let c0_i32_275 : BitVec 32 := 0#32
  let v480 : BitVec 1 := Scalar.cmpi .ne v479 c0_i32_275
  v480

def k0_off122 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_271 : BitVec 32 := 16384#32
  let v472 : BitVec 32 := Scalar.muli v435 c16384_i32_271
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v473 : BitVec 32 := Scalar.addi v472 v9
  let c4096_i32_272 : BitVec 32 := 4096#32
  let v474 : BitVec 32 := Scalar.addi v473 c4096_i32_272
  let c0_i32_357 : BitVec 32 := 0#32
  ![v474.toNat, 0]
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let c0_i32 : BitVec 32 := 0#32
  let v12 : BitVec 1 := Scalar.cmpi .sgt v8 c0_i32
  let v481 : BitVec 1 := Scalar.andi v439 v12
  let v482 : BitVec 32 := Scalar.extui v481
  let c0_i32_276 : BitVec 32 := 0#32
  let v483 : BitVec 1 := Scalar.cmpi .ne v482 c0_i32_276
  v483

def k0_off123 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_273 : BitVec 32 := 16384#32
  let v475 : BitVec 32 := Scalar.muli v437 c16384_i32_273
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v476 : BitVec 32 := Scalar.addi v475 v9
  let c4096_i32_274 : BitVec 32 := 4096#32
  let v477 : BitVec 32 := Scalar.addi v476 c4096_i32_274
  let c0_i32_357 : BitVec 32 := 0#32
  ![v477.toNat, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let v484 : BitVec 32 := Scalar.extui v438
  let c0_i32_277 : BitVec 32 := 0#32
  let v485 : BitVec 1 := Scalar.cmpi .ne v484 c0_i32_277
  v485

def k0_off124 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_271 : BitVec 32 := 16384#32
  let v472 : BitVec 32 := Scalar.muli v435 c16384_i32_271
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v473 : BitVec 32 := Scalar.addi v472 v9
  let c4096_i32_272 : BitVec 32 := 4096#32
  let v474 : BitVec 32 := Scalar.addi v473 c4096_i32_272
  let c0_i32_357 : BitVec 32 := 0#32
  ![v474.toNat, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let v486 : BitVec 32 := Scalar.extui v439
  let c0_i32_278 : BitVec 32 := 0#32
  let v487 : BitVec 1 := Scalar.cmpi .ne v486 c0_i32_278
  v487

def k0_off125 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_273 : BitVec 32 := 16384#32
  let v475 : BitVec 32 := Scalar.muli v437 c16384_i32_273
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v476 : BitVec 32 := Scalar.addi v475 v9
  let c4096_i32_274 : BitVec 32 := 4096#32
  let v477 : BitVec 32 := Scalar.addi v476 c4096_i32_274
  let c0_i32_357 : BitVec 32 := 0#32
  ![v477.toNat, 0]
def k0_cond119 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let c3_i32 : BitVec 32 := 3#32
  let v13 : BitVec 1 := Scalar.cmpi .slt v8 c3_i32
  let v494 : BitVec 1 := Scalar.andi v438 v13
  let v495 : BitVec 32 := Scalar.extui v494
  let c0_i32_283 : BitVec 32 := 0#32
  let v496 : BitVec 1 := Scalar.cmpi .ne v495 c0_i32_283
  v496

def k0_off126 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_279 : BitVec 32 := 16384#32
  let v488 : BitVec 32 := Scalar.muli v435 c16384_i32_279
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v489 : BitVec 32 := Scalar.addi v488 v9
  let c6144_i32_280 : BitVec 32 := 6144#32
  let v490 : BitVec 32 := Scalar.addi v489 c6144_i32_280
  let c0_i32_357 : BitVec 32 := 0#32
  ![v490.toNat, 0]
def k0_cond120 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let c0_i32 : BitVec 32 := 0#32
  let v12 : BitVec 1 := Scalar.cmpi .sgt v8 c0_i32
  let v497 : BitVec 1 := Scalar.andi v439 v12
  let v498 : BitVec 32 := Scalar.extui v497
  let c0_i32_284 : BitVec 32 := 0#32
  let v499 : BitVec 1 := Scalar.cmpi .ne v498 c0_i32_284
  v499

def k0_off127 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_281 : BitVec 32 := 16384#32
  let v491 : BitVec 32 := Scalar.muli v437 c16384_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v492 : BitVec 32 := Scalar.addi v491 v9
  let c6144_i32_282 : BitVec 32 := 6144#32
  let v493 : BitVec 32 := Scalar.addi v492 c6144_i32_282
  let c0_i32_357 : BitVec 32 := 0#32
  ![v493.toNat, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c0_i32_253 : BitVec 32 := 0#32
  let v438 : BitVec 1 := Scalar.cmpi .sge v435 c0_i32_253
  let v500 : BitVec 32 := Scalar.extui v438
  let c0_i32_285 : BitVec 32 := 0#32
  let v501 : BitVec 1 := Scalar.cmpi .ne v500 c0_i32_285
  v501

def k0_off128 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v434 : BitVec 32 := Scalar.subi v8 c1_i32_249
  let c0_i32_250 : BitVec 32 := 0#32
  let v435 : BitVec 32 := Scalar.subi v434 c0_i32_250
  let c16384_i32_279 : BitVec 32 := 16384#32
  let v488 : BitVec 32 := Scalar.muli v435 c16384_i32_279
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v489 : BitVec 32 := Scalar.addi v488 v9
  let c6144_i32_280 : BitVec 32 := 6144#32
  let v490 : BitVec 32 := Scalar.addi v489 c6144_i32_280
  let c0_i32_357 : BitVec 32 := 0#32
  ![v490.toNat, 0]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c3_i32_254 : BitVec 32 := 3#32
  let v439 : BitVec 1 := Scalar.cmpi .sle v437 c3_i32_254
  let v502 : BitVec 32 := Scalar.extui v439
  let c0_i32_286 : BitVec 32 := 0#32
  let v503 : BitVec 1 := Scalar.cmpi .ne v502 c0_i32_286
  v503

def k0_off129 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v436 : BitVec 32 := Scalar.addi v8 c1_i32_251
  let c0_i32_252 : BitVec 32 := 0#32
  let v437 : BitVec 32 := Scalar.addi v436 c0_i32_252
  let c16384_i32_281 : BitVec 32 := 16384#32
  let v491 : BitVec 32 := Scalar.muli v437 c16384_i32_281
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v492 : BitVec 32 := Scalar.addi v491 v9
  let c6144_i32_282 : BitVec 32 := 6144#32
  let v493 : BitVec 32 := Scalar.addi v492 c6144_i32_282
  let c0_i32_357 : BitVec 32 := 0#32
  ![v493.toNat, 0]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let c3_i32 : BitVec 32 := 3#32
  let v13 : BitVec 1 := Scalar.cmpi .slt v8 c3_i32
  let v516 : BitVec 1 := Scalar.andi v508 v13
  let v517 : BitVec 32 := Scalar.extui v516
  let c0_i32_297 : BitVec 32 := 0#32
  let v518 : BitVec 1 := Scalar.cmpi .ne v517 c0_i32_297
  v518

def k0_off130 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_293 : BitVec 32 := 16384#32
  let v510 : BitVec 32 := Scalar.muli v505 c16384_i32_293
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v511 : BitVec 32 := Scalar.addi v510 v9
  let c0_i32_294 : BitVec 32 := 0#32
  let v512 : BitVec 32 := Scalar.addi v511 c0_i32_294
  let c0_i32_357 : BitVec 32 := 0#32
  ![v512.toNat, 0]
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let c0_i32 : BitVec 32 := 0#32
  let v12 : BitVec 1 := Scalar.cmpi .sgt v8 c0_i32
  let v519 : BitVec 1 := Scalar.andi v509 v12
  let v520 : BitVec 32 := Scalar.extui v519
  let c0_i32_298 : BitVec 32 := 0#32
  let v521 : BitVec 1 := Scalar.cmpi .ne v520 c0_i32_298
  v521

def k0_off131 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_295 : BitVec 32 := 16384#32
  let v513 : BitVec 32 := Scalar.muli v507 c16384_i32_295
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v514 : BitVec 32 := Scalar.addi v513 v9
  let c0_i32_296 : BitVec 32 := 0#32
  let v515 : BitVec 32 := Scalar.addi v514 c0_i32_296
  let c0_i32_357 : BitVec 32 := 0#32
  ![v515.toNat, 0]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let v522 : BitVec 32 := Scalar.extui v508
  let c0_i32_299 : BitVec 32 := 0#32
  let v523 : BitVec 1 := Scalar.cmpi .ne v522 c0_i32_299
  v523

def k0_off132 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_293 : BitVec 32 := 16384#32
  let v510 : BitVec 32 := Scalar.muli v505 c16384_i32_293
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v511 : BitVec 32 := Scalar.addi v510 v9
  let c0_i32_294 : BitVec 32 := 0#32
  let v512 : BitVec 32 := Scalar.addi v511 c0_i32_294
  let c0_i32_357 : BitVec 32 := 0#32
  ![v512.toNat, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let v524 : BitVec 32 := Scalar.extui v509
  let c0_i32_300 : BitVec 32 := 0#32
  let v525 : BitVec 1 := Scalar.cmpi .ne v524 c0_i32_300
  v525

def k0_off133 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_295 : BitVec 32 := 16384#32
  let v513 : BitVec 32 := Scalar.muli v507 c16384_i32_295
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v514 : BitVec 32 := Scalar.addi v513 v9
  let c0_i32_296 : BitVec 32 := 0#32
  let v515 : BitVec 32 := Scalar.addi v514 c0_i32_296
  let c0_i32_357 : BitVec 32 := 0#32
  ![v515.toNat, 0]
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let c3_i32 : BitVec 32 := 3#32
  let v13 : BitVec 1 := Scalar.cmpi .slt v8 c3_i32
  let v532 : BitVec 1 := Scalar.andi v508 v13
  let v533 : BitVec 32 := Scalar.extui v532
  let c0_i32_305 : BitVec 32 := 0#32
  let v534 : BitVec 1 := Scalar.cmpi .ne v533 c0_i32_305
  v534

def k0_off134 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_301 : BitVec 32 := 16384#32
  let v526 : BitVec 32 := Scalar.muli v505 c16384_i32_301
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v527 : BitVec 32 := Scalar.addi v526 v9
  let c2048_i32_302 : BitVec 32 := 2048#32
  let v528 : BitVec 32 := Scalar.addi v527 c2048_i32_302
  let c0_i32_357 : BitVec 32 := 0#32
  ![v528.toNat, 0]
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let c0_i32 : BitVec 32 := 0#32
  let v12 : BitVec 1 := Scalar.cmpi .sgt v8 c0_i32
  let v535 : BitVec 1 := Scalar.andi v509 v12
  let v536 : BitVec 32 := Scalar.extui v535
  let c0_i32_306 : BitVec 32 := 0#32
  let v537 : BitVec 1 := Scalar.cmpi .ne v536 c0_i32_306
  v537

def k0_off135 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_303 : BitVec 32 := 16384#32
  let v529 : BitVec 32 := Scalar.muli v507 c16384_i32_303
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v530 : BitVec 32 := Scalar.addi v529 v9
  let c2048_i32_304 : BitVec 32 := 2048#32
  let v531 : BitVec 32 := Scalar.addi v530 c2048_i32_304
  let c0_i32_357 : BitVec 32 := 0#32
  ![v531.toNat, 0]
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let v538 : BitVec 32 := Scalar.extui v508
  let c0_i32_307 : BitVec 32 := 0#32
  let v539 : BitVec 1 := Scalar.cmpi .ne v538 c0_i32_307
  v539

def k0_off136 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_301 : BitVec 32 := 16384#32
  let v526 : BitVec 32 := Scalar.muli v505 c16384_i32_301
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v527 : BitVec 32 := Scalar.addi v526 v9
  let c2048_i32_302 : BitVec 32 := 2048#32
  let v528 : BitVec 32 := Scalar.addi v527 c2048_i32_302
  let c0_i32_357 : BitVec 32 := 0#32
  ![v528.toNat, 0]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let v540 : BitVec 32 := Scalar.extui v509
  let c0_i32_308 : BitVec 32 := 0#32
  let v541 : BitVec 1 := Scalar.cmpi .ne v540 c0_i32_308
  v541

def k0_off137 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_303 : BitVec 32 := 16384#32
  let v529 : BitVec 32 := Scalar.muli v507 c16384_i32_303
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v530 : BitVec 32 := Scalar.addi v529 v9
  let c2048_i32_304 : BitVec 32 := 2048#32
  let v531 : BitVec 32 := Scalar.addi v530 c2048_i32_304
  let c0_i32_357 : BitVec 32 := 0#32
  ![v531.toNat, 0]
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let c3_i32 : BitVec 32 := 3#32
  let v13 : BitVec 1 := Scalar.cmpi .slt v8 c3_i32
  let v548 : BitVec 1 := Scalar.andi v508 v13
  let v549 : BitVec 32 := Scalar.extui v548
  let c0_i32_313 : BitVec 32 := 0#32
  let v550 : BitVec 1 := Scalar.cmpi .ne v549 c0_i32_313
  v550

def k0_off138 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_309 : BitVec 32 := 16384#32
  let v542 : BitVec 32 := Scalar.muli v505 c16384_i32_309
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v543 : BitVec 32 := Scalar.addi v542 v9
  let c4096_i32_310 : BitVec 32 := 4096#32
  let v544 : BitVec 32 := Scalar.addi v543 c4096_i32_310
  let c0_i32_357 : BitVec 32 := 0#32
  ![v544.toNat, 0]
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let c0_i32 : BitVec 32 := 0#32
  let v12 : BitVec 1 := Scalar.cmpi .sgt v8 c0_i32
  let v551 : BitVec 1 := Scalar.andi v509 v12
  let v552 : BitVec 32 := Scalar.extui v551
  let c0_i32_314 : BitVec 32 := 0#32
  let v553 : BitVec 1 := Scalar.cmpi .ne v552 c0_i32_314
  v553

def k0_off139 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_311 : BitVec 32 := 16384#32
  let v545 : BitVec 32 := Scalar.muli v507 c16384_i32_311
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v546 : BitVec 32 := Scalar.addi v545 v9
  let c4096_i32_312 : BitVec 32 := 4096#32
  let v547 : BitVec 32 := Scalar.addi v546 c4096_i32_312
  let c0_i32_357 : BitVec 32 := 0#32
  ![v547.toNat, 0]
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let v554 : BitVec 32 := Scalar.extui v508
  let c0_i32_315 : BitVec 32 := 0#32
  let v555 : BitVec 1 := Scalar.cmpi .ne v554 c0_i32_315
  v555

def k0_off140 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_309 : BitVec 32 := 16384#32
  let v542 : BitVec 32 := Scalar.muli v505 c16384_i32_309
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v543 : BitVec 32 := Scalar.addi v542 v9
  let c4096_i32_310 : BitVec 32 := 4096#32
  let v544 : BitVec 32 := Scalar.addi v543 c4096_i32_310
  let c0_i32_357 : BitVec 32 := 0#32
  ![v544.toNat, 0]
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let v556 : BitVec 32 := Scalar.extui v509
  let c0_i32_316 : BitVec 32 := 0#32
  let v557 : BitVec 1 := Scalar.cmpi .ne v556 c0_i32_316
  v557

def k0_off141 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_311 : BitVec 32 := 16384#32
  let v545 : BitVec 32 := Scalar.muli v507 c16384_i32_311
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v546 : BitVec 32 := Scalar.addi v545 v9
  let c4096_i32_312 : BitVec 32 := 4096#32
  let v547 : BitVec 32 := Scalar.addi v546 c4096_i32_312
  let c0_i32_357 : BitVec 32 := 0#32
  ![v547.toNat, 0]
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let c3_i32 : BitVec 32 := 3#32
  let v13 : BitVec 1 := Scalar.cmpi .slt v8 c3_i32
  let v564 : BitVec 1 := Scalar.andi v508 v13
  let v565 : BitVec 32 := Scalar.extui v564
  let c0_i32_321 : BitVec 32 := 0#32
  let v566 : BitVec 1 := Scalar.cmpi .ne v565 c0_i32_321
  v566

def k0_off142 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_317 : BitVec 32 := 16384#32
  let v558 : BitVec 32 := Scalar.muli v505 c16384_i32_317
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v559 : BitVec 32 := Scalar.addi v558 v9
  let c6144_i32_318 : BitVec 32 := 6144#32
  let v560 : BitVec 32 := Scalar.addi v559 c6144_i32_318
  let c0_i32_357 : BitVec 32 := 0#32
  ![v560.toNat, 0]
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let c0_i32 : BitVec 32 := 0#32
  let v12 : BitVec 1 := Scalar.cmpi .sgt v8 c0_i32
  let v567 : BitVec 1 := Scalar.andi v509 v12
  let v568 : BitVec 32 := Scalar.extui v567
  let c0_i32_322 : BitVec 32 := 0#32
  let v569 : BitVec 1 := Scalar.cmpi .ne v568 c0_i32_322
  v569

def k0_off143 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_319 : BitVec 32 := 16384#32
  let v561 : BitVec 32 := Scalar.muli v507 c16384_i32_319
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v562 : BitVec 32 := Scalar.addi v561 v9
  let c6144_i32_320 : BitVec 32 := 6144#32
  let v563 : BitVec 32 := Scalar.addi v562 c6144_i32_320
  let c0_i32_357 : BitVec 32 := 0#32
  ![v563.toNat, 0]
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c0_i32_291 : BitVec 32 := 0#32
  let v508 : BitVec 1 := Scalar.cmpi .sge v505 c0_i32_291
  let v570 : BitVec 32 := Scalar.extui v508
  let c0_i32_323 : BitVec 32 := 0#32
  let v571 : BitVec 1 := Scalar.cmpi .ne v570 c0_i32_323
  v571

def k0_off144 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v504 : BitVec 32 := Scalar.subi v8 c1_i32_287
  let c1_i32_288 : BitVec 32 := 1#32
  let v505 : BitVec 32 := Scalar.subi v504 c1_i32_288
  let c16384_i32_317 : BitVec 32 := 16384#32
  let v558 : BitVec 32 := Scalar.muli v505 c16384_i32_317
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v559 : BitVec 32 := Scalar.addi v558 v9
  let c6144_i32_318 : BitVec 32 := 6144#32
  let v560 : BitVec 32 := Scalar.addi v559 c6144_i32_318
  let c0_i32_357 : BitVec 32 := 0#32
  ![v560.toNat, 0]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c3_i32_292 : BitVec 32 := 3#32
  let v509 : BitVec 1 := Scalar.cmpi .sle v507 c3_i32_292
  let v572 : BitVec 32 := Scalar.extui v509
  let c0_i32_324 : BitVec 32 := 0#32
  let v573 : BitVec 1 := Scalar.cmpi .ne v572 c0_i32_324
  v573

def k0_off145 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_289 : BitVec 32 := 1#32
  let v506 : BitVec 32 := Scalar.addi v8 c1_i32_289
  let c1_i32_290 : BitVec 32 := 1#32
  let v507 : BitVec 32 := Scalar.addi v506 c1_i32_290
  let c16384_i32_319 : BitVec 32 := 16384#32
  let v561 : BitVec 32 := Scalar.muli v507 c16384_i32_319
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v562 : BitVec 32 := Scalar.addi v561 v9
  let c6144_i32_320 : BitVec 32 := 6144#32
  let v563 : BitVec 32 := Scalar.addi v562 c6144_i32_320
  let c0_i32_357 : BitVec 32 := 0#32
  ![v563.toNat, 0]
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c0_i32_329 : BitVec 32 := 0#32
  let v578 : BitVec 1 := Scalar.cmpi .sge v575 c0_i32_329
  let v586 : BitVec 32 := Scalar.extui v578
  let c0_i32_335 : BitVec 32 := 0#32
  let v587 : BitVec 1 := Scalar.cmpi .ne v586 c0_i32_335
  v587

def k0_off146 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c16384_i32_331 : BitVec 32 := 16384#32
  let v580 : BitVec 32 := Scalar.muli v575 c16384_i32_331
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v581 : BitVec 32 := Scalar.addi v580 v9
  let c0_i32_332 : BitVec 32 := 0#32
  let v582 : BitVec 32 := Scalar.addi v581 c0_i32_332
  let c0_i32_357 : BitVec 32 := 0#32
  ![v582.toNat, 0]
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c3_i32_330 : BitVec 32 := 3#32
  let v579 : BitVec 1 := Scalar.cmpi .sle v577 c3_i32_330
  let v588 : BitVec 32 := Scalar.extui v579
  let c0_i32_336 : BitVec 32 := 0#32
  let v589 : BitVec 1 := Scalar.cmpi .ne v588 c0_i32_336
  v589

def k0_off147 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c16384_i32_333 : BitVec 32 := 16384#32
  let v583 : BitVec 32 := Scalar.muli v577 c16384_i32_333
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v584 : BitVec 32 := Scalar.addi v583 v9
  let c0_i32_334 : BitVec 32 := 0#32
  let v585 : BitVec 32 := Scalar.addi v584 c0_i32_334
  let c0_i32_357 : BitVec 32 := 0#32
  ![v585.toNat, 0]
def k0_cond141 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c0_i32_329 : BitVec 32 := 0#32
  let v578 : BitVec 1 := Scalar.cmpi .sge v575 c0_i32_329
  let v596 : BitVec 32 := Scalar.extui v578
  let c0_i32_341 : BitVec 32 := 0#32
  let v597 : BitVec 1 := Scalar.cmpi .ne v596 c0_i32_341
  v597

def k0_off148 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c16384_i32_337 : BitVec 32 := 16384#32
  let v590 : BitVec 32 := Scalar.muli v575 c16384_i32_337
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v591 : BitVec 32 := Scalar.addi v590 v9
  let c2048_i32_338 : BitVec 32 := 2048#32
  let v592 : BitVec 32 := Scalar.addi v591 c2048_i32_338
  let c0_i32_357 : BitVec 32 := 0#32
  ![v592.toNat, 0]
def k0_cond142 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c3_i32_330 : BitVec 32 := 3#32
  let v579 : BitVec 1 := Scalar.cmpi .sle v577 c3_i32_330
  let v598 : BitVec 32 := Scalar.extui v579
  let c0_i32_342 : BitVec 32 := 0#32
  let v599 : BitVec 1 := Scalar.cmpi .ne v598 c0_i32_342
  v599

def k0_off149 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c16384_i32_339 : BitVec 32 := 16384#32
  let v593 : BitVec 32 := Scalar.muli v577 c16384_i32_339
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v594 : BitVec 32 := Scalar.addi v593 v9
  let c2048_i32_340 : BitVec 32 := 2048#32
  let v595 : BitVec 32 := Scalar.addi v594 c2048_i32_340
  let c0_i32_357 : BitVec 32 := 0#32
  ![v595.toNat, 0]
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c0_i32_329 : BitVec 32 := 0#32
  let v578 : BitVec 1 := Scalar.cmpi .sge v575 c0_i32_329
  let v606 : BitVec 32 := Scalar.extui v578
  let c0_i32_347 : BitVec 32 := 0#32
  let v607 : BitVec 1 := Scalar.cmpi .ne v606 c0_i32_347
  v607

def k0_off150 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c16384_i32_343 : BitVec 32 := 16384#32
  let v600 : BitVec 32 := Scalar.muli v575 c16384_i32_343
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v601 : BitVec 32 := Scalar.addi v600 v9
  let c4096_i32_344 : BitVec 32 := 4096#32
  let v602 : BitVec 32 := Scalar.addi v601 c4096_i32_344
  let c0_i32_357 : BitVec 32 := 0#32
  ![v602.toNat, 0]
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c3_i32_330 : BitVec 32 := 3#32
  let v579 : BitVec 1 := Scalar.cmpi .sle v577 c3_i32_330
  let v608 : BitVec 32 := Scalar.extui v579
  let c0_i32_348 : BitVec 32 := 0#32
  let v609 : BitVec 1 := Scalar.cmpi .ne v608 c0_i32_348
  v609

def k0_off151 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c16384_i32_345 : BitVec 32 := 16384#32
  let v603 : BitVec 32 := Scalar.muli v577 c16384_i32_345
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v604 : BitVec 32 := Scalar.addi v603 v9
  let c4096_i32_346 : BitVec 32 := 4096#32
  let v605 : BitVec 32 := Scalar.addi v604 c4096_i32_346
  let c0_i32_357 : BitVec 32 := 0#32
  ![v605.toNat, 0]
def k0_cond145 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c0_i32_329 : BitVec 32 := 0#32
  let v578 : BitVec 1 := Scalar.cmpi .sge v575 c0_i32_329
  let v616 : BitVec 32 := Scalar.extui v578
  let c0_i32_353 : BitVec 32 := 0#32
  let v617 : BitVec 1 := Scalar.cmpi .ne v616 c0_i32_353
  v617

def k0_off152 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v574 : BitVec 32 := Scalar.subi v8 c1_i32_325
  let c2_i32_326 : BitVec 32 := 2#32
  let v575 : BitVec 32 := Scalar.subi v574 c2_i32_326
  let c16384_i32_349 : BitVec 32 := 16384#32
  let v610 : BitVec 32 := Scalar.muli v575 c16384_i32_349
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v611 : BitVec 32 := Scalar.addi v610 v9
  let c6144_i32_350 : BitVec 32 := 6144#32
  let v612 : BitVec 32 := Scalar.addi v611 c6144_i32_350
  let c0_i32_357 : BitVec 32 := 0#32
  ![v612.toNat, 0]
def k0_cond146 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c3_i32_330 : BitVec 32 := 3#32
  let v579 : BitVec 1 := Scalar.cmpi .sle v577 c3_i32_330
  let v618 : BitVec 32 := Scalar.extui v579
  let c0_i32_354 : BitVec 32 := 0#32
  let v619 : BitVec 1 := Scalar.cmpi .ne v618 c0_i32_354
  v619

def k0_off153 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v576 : BitVec 32 := Scalar.addi v8 c1_i32_327
  let c2_i32_328 : BitVec 32 := 2#32
  let v577 : BitVec 32 := Scalar.addi v576 c2_i32_328
  let c16384_i32_351 : BitVec 32 := 16384#32
  let v613 : BitVec 32 := Scalar.muli v577 c16384_i32_351
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v9 : BitVec 32 := Scalar.muli v2 c8192_i32
  let v614 : BitVec 32 := Scalar.addi v613 v9
  let c6144_i32_352 : BitVec 32 := 6144#32
  let v615 : BitVec 32 := Scalar.addi v614 c6144_i32_352
  let c0_i32_357 : BitVec 32 := 0#32
  ![v615.toNat, 0]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh, the operations of one device, and their order

Device `c = 16x + 4y + z` of the 2 × 4 × 4 mesh holds block `z` of the argument. Along each line of four devices
(fixed `x`, `y`) the blocks travel in both directions; the plane `x` carries the half `x` of every block, and what
arrives is handed to the device of the other plane.

A direction is a Boolean: `true` is rightwards (from `z` to `z + 1`), `false` is leftwards.
-/
module

public import proofs.«01_k».proof.Proof.Gen.KernelIdeal
public import Mathlib.Tactic.DeriveFintype

@[expose] public section

namespace Cert.Gather

open Cert.KernelIdeal
open Idealize.ShloMosaic

/-! ## Coordinates and neighbours -/

/-- The coordinate of a device along the line its blocks travel. -/
def zc (c : Dev nD) : ℕ := c.val % 4

/-- The plane of a device, which is also the half of every block that the device sends along its line. -/
def hb (c : Dev nD) : Fin 2 := ⟨c.val / 16 % 2, Nat.mod_lt _ (by decide)⟩

/-- The line of a device: its middle coordinate. -/
def yc (c : Dev nD) : Fin 4 := ⟨c.val / 4 % 4, Nat.mod_lt _ (by decide)⟩

/-- The half the device does not send along its line. -/
def ob (c : Dev nD) : Fin 2 := ⟨1 - c.val / 16 % 2, by omega⟩

/-- The next device in a direction (around the whole mesh; only used where there is one on the line). -/
def nx (d : Bool) (c : Dev nD) : Dev nD := ⟨(if d then c.val + 1 else c.val + 31) % 32, Nat.mod_lt _ (by decide)⟩

theorem nx_nx (d : Bool) (c : Dev nD) : nx (!d) (nx d c) = c := by revert d c; decide +kernel

/-- The next device in direction `d`, as a permutation; its inverse is the next device in the other direction. -/
def nb (d : Bool) : Equiv.Perm (Dev nD) := ⟨nx d, nx (!d), nx_nx d, fun c => by have h := nx_nx (!d) c; rwa [Bool.not_not] at h⟩

/-- The device at the same place of the other plane. -/
def px (c : Dev nD) : Dev nD := ⟨(c.val + 16) % 32, Nat.mod_lt _ (by decide)⟩

theorem px_px (c : Dev nD) : px (px c) = c := by revert c; decide +kernel

/-- The exchange of the two planes, as a permutation. -/
def pa : Equiv.Perm (Dev nD) := ⟨px, px, px_px, px_px⟩

/-- How many blocks a device receives in direction `d`: the number of devices behind it on its line. -/
def room (d : Bool) (c : Dev nD) : ℕ := if d then zc c else 3 - zc c

/-- Whether a device has a neighbour to send to in direction `d`. -/
def has (d : Bool) (c : Dev nD) : Bool := decide (0 < room (!d) c)

/-- The block a device sends as its `n`-th in direction `d` (its own is the `0`-th), which it has received as the
    `n - 1`-st. -/
def blk (d : Bool) (n : ℕ) (c : Dev nD) : Fin 4 := ⟨(if d then zc c + 4 - n else zc c + n) % 4, Nat.mod_lt _ (by decide)⟩

/-! ## Semaphores and the contributions each one counts -/

/-- The semaphores of one device: the twelve receive semaphores of each direction (step `s`, chunk `q`), the receive
    semaphore of the exchange between the planes, the send semaphore of each direction, the send semaphore of the exchange,
    the local copy's, and the barrier's. -/
inductive Kd
  | rc (d : Bool) (s : Fin 3) (q : Fin 4)
  | xr
  | sd (d : Bool)
  | xs
  | cp
  | bar
  deriving DecidableEq, Fintype

/-- The name of a contribution to a semaphore: a direction, a step and a chunk. -/
abbrev Dt : Type := Bool × Fin 3 × Fin 4

/-- Which contributions the semaphore `k` of device `c` gets. -/
def duty (c : Dev nD) : Kd → Dt → Bool
  | .rc d s q, y => decide (y = (d, s, q)) && decide (s.val < room d c)
  | .xr, y => decide (y.2.1.val < room y.1 c)
  | .xs, y => decide (y.2.1.val < room y.1 c)
  | .sd d, y => decide (y.1 = d) && has d c && decide (y.2.1.val ≤ room d c)
  | .cp, y => decide (y = (true, 0, 0))
  | .bar, y => (decide (y.2 = (0, 0)) && has y.1 c) || decide (y = (true, 1, 0))

/-! ## The operations of one device -/

/-- The operations of one device: the local copy; a signal to a neighbour or (`none`) to the other plane; the `t`-th send
    of chunk `q` in direction `d` (the device's own block first, then what it received before); the hand-over to the other
    plane of what arrived at step `s`; a wait on semaphore `k`, of the size of its contribution `y`. -/
inductive Op
  | cpy
  | sig (r : Option Bool)
  | snd (d : Bool) (t : Fin 3) (q : Fin 4)
  | par (d : Bool) (s : Fin 3) (q : Fin 4)
  | wait (k : Kd) (y : Dt)
  deriving DecidableEq

/-- Whether device `c` performs the operation. -/
def act (c : Dev nD) : Op → Bool
  | .cpy => true
  | .sig none => true
  | .sig (some d) => has d c
  | .snd d t _ => has d c && decide (t.val ≤ room d c)
  | .par d s _ => decide (s.val < room d c)
  | .wait k y => duty c k y

/-- The semaphore of another device that an operation raises: how the other device is found, the semaphore and the
    contribution. -/
def pays : Op → Option (Equiv.Perm (Dev nD) × Kd × Dt)
  | .cpy => none
  | .sig none => some (pa, .bar, (true, 1, 0))
  | .sig (some d) => some (nb d, .bar, (!d, 0, 0))
  | .snd d t q => some (nb d, .rc d t q, (d, t, q))
  | .par d s q => some (pa, .xr, (d, s, q))
  | .wait _ _ => none

/-- The own semaphore that the end of an operation raises. -/
def self : Op → Option (Kd × Dt)
  | .cpy => some (.cp, (true, 0, 0))
  | .snd d t q => some (.sd d, (d, t, q))
  | .par d s q => some (.xs, (d, s, q))
  | _ => none

/-- A device performs an operation exactly if the semaphore the operation raises expects it. -/
theorem act_pays {o : Op} {σ : Equiv.Perm (Dev nD)} {k : Kd} {y : Dt} (h : pays o = some (σ, k, y)) (c : Dev nD) :
    act c o = duty (σ c) k y := by
  cases o with
  | cpy => cases h
  | wait => cases h
  | sig r =>
    cases r with
    | none => cases h; revert c; decide +kernel
    | some d => cases h; revert c d; decide +kernel
  | snd d t q => cases h; revert c d t q; decide +kernel
  | par d s q => cases h; revert c d s q; decide +kernel

theorem act_self {o : Op} {k : Kd} {y : Dt} (h : self o = some (k, y)) (c : Dev nD) : act c o = duty c k y := by
  cases o with
  | cpy => cases h; rfl
  | wait => cases h
  | sig r => cases h
  | snd d t q => cases h; revert c d t q; decide +kernel
  | par d s q => cases h; revert c d s q; decide +kernel

/-! ## The order of the operations -/

/-- The local copy and the entry barrier. -/
def opsA : List Op :=
  [.cpy, .sig (some false), .wait .bar (false, 0, 0), .sig (some true), .wait .bar (true, 0, 0), .sig none,
    .wait .bar (true, 1, 0)]

/-- The chunks of step `s` in both directions. -/
def step (s : Fin 3) : List Dt := (List.finRange 4).flatMap fun q => [(true, s, q), (false, s, q)]

/-- The chunks of every step in both directions, in the order of the program. -/
def steps : List Dt := step 0 ++ (step 1 ++ step 2)

/-- The sends of the own block. -/
def opsB : List Op := (step 0).map fun y => .snd y.1 y.2.1 y.2.2

/-- What is done with one chunk that arrives: wait for it, send it on (but for the last step), hand it over. -/
def stepOps (y : Dt) : List Op :=
  .wait (.rc y.1 y.2.1 y.2.2) y ::
    ((if y.2.1 = 2 then [] else [.snd y.1 (y.2.1 + 1) y.2.2]) ++ [.par y.1 y.2.1 y.2.2])

/-- The travel of the blocks. -/
def opsC : List Op := steps.flatMap stepOps

/-- The waits for what the other plane hands over, and for the end of every send and of the local copy. -/
def waits : List (Kd × Dt) :=
  (steps.map fun y => (.xr, y)) ++ ((step 0).map fun y => (.sd y.1, y))
    ++ ((List.finRange 3).flatMap fun s => (List.finRange 4).flatMap fun q =>
        (if s = 2 then [] else [(.sd true, (true, s + 1, q)), (.sd false, (false, s + 1, q))])
          ++ [(.xs, (true, s, q)), (.xs, (false, s, q))])
    ++ [(.cp, (true, 0, 0))]

/-- The waits as operations. -/
def opsW : List Op := waits.map fun w => .wait w.1 w.2

/-- All the operations of one device, in order. -/
def allOps : List Op := opsA ++ (opsB ++ (opsC ++ opsW))

/-! ## The order in which the semaphores are waited on -/

/-- The level of a contribution: a device that waits for it owes only contributions of a higher level. -/
def lev (c : Dev nD) : Kd → Dt → ℕ
  | .bar, (false, _, _) => zc c
  | .bar, (true, s, _) => 5 + s.val
  | .rc _ s q, _ => 20 + 4 * s.val + q.val
  | .xr, _ => 100
  | _, _ => 0

/-- Whether device `c` performs the operation and it raises a semaphore of a level not above `n`. -/
def below (c : Dev nD) (n : ℕ) (o : Op) : Bool :=
  match pays o with
  | none => false
  | some (σ, k, y) => act c o && decide (lev (σ c) k y ≤ n)

/-- At every wait of a list of operations, all that is raised later is of a higher level. -/
def ok (c : Dev nD) : List Op → Bool
  | [] => true
  | .wait k y :: ops => (!(duty c k y) || !(ops.any (below c (lev c k y)))) && ok c ops
  | _ :: ops => ok c ops

theorem ok_tail {c : Dev nD} {o : Op} {ops : List Op} (h : ok c (o :: ops) = true) : ok c ops = true := by
  cases o with
  | wait k y => unfold ok at h; exact (Bool.and_eq_true_iff.mp h).2
  | _ => exact h

theorem ok_append {c : Dev nD} {ops ops' : List Op} (h : ok c (ops ++ ops') = true) : ok c ops' = true := by
  induction ops with
  | nil => exact h
  | cons o ops ih => exact ih (ok_tail h)

theorem ok_all (c : Dev nD) : ok c allOps = true := by revert c; decide +kernel

end Cert.Gather
-- ==== Proof.Text.lean ====
/-
# The program performs the operations

The predicate `Runs c ops p p'` states that the program `p`, on device `c`, performs the operations of the list `ops` in order, skipping the
ones the device does not perform, and continues as `p'`.
-/
module

public import proofs.«01_k».proof.Proof.Mesh
public import proofs.«01_k».proof.Proof.Gen.KernelIdeal.Skeleton

@[expose] public section

noncomputable section

namespace Cert.Gather

open Cert.KernelIdeal Cert.KernelIdeal.Gen
open Idealize.ShloMosaic Idealize.SL.Sem

variable {F : FTy → Type} [FloatOps F]

/-! ## Buffers, chunks and semaphores -/

/-- The argument of the kernel on one device: its block. -/
abbrev aM : Memref sig .tc .hbm S16384x1024 .bf16 := Memref.whole main_arg0
/-- The result of the kernel on one device: all the blocks. -/
abbrev oM : Memref sig .tc .hbm S65536x1024 .bf16 := Memref.whole main_v1

/-- Where chunk `q` of half `h` of block `b` begins in the result. -/
abbrev oOff (b : Fin 4) (h : Fin 2) (q : Fin 4) : Fin 2 → ℕ := ![16384 * b.val + 8192 * h.val + 2048 * q.val, 0]
/-- Where chunk `q` of half `h` begins in a block. -/
abbrev aOff (h : Fin 2) (q : Fin 4) : Fin 2 → ℕ := ![8192 * h.val + 2048 * q.val, 0]

theorem oOff_inb (b : Fin 4) (h : Fin 2) (q : Fin 4) : ∀ a, oOff b h q a + S2048x1024.size a ≤ S65536x1024.size a := by
  revert b h q; decide +kernel
theorem aOff_inb (h : Fin 2) (q : Fin 4) : ∀ a, aOff h q a + S2048x1024.size a ≤ S16384x1024.size a := by
  revert h q; decide +kernel

/-- The 2048 rows of the result from `off` on. -/
abbrev oAt (off : Fin 2 → ℕ) (inb : ∀ a, off a + S2048x1024.size a ≤ S65536x1024.size a) : Memref sig .tc .hbm S2048x1024 .bf16 :=
  oM.slice (Rect.unit (s := S65536x1024) off S2048x1024.size inb) (fun _ => rfl)
/-- The 2048 rows of the argument from `off` on. -/
abbrev aAt (off : Fin 2 → ℕ) (inb : ∀ a, off a + S2048x1024.size a ≤ S16384x1024.size a) : Memref sig .tc .hbm S2048x1024 .bf16 :=
  aM.slice (Rect.unit (s := S16384x1024) off S2048x1024.size inb) (fun _ => rfl)
/-- Chunk `q` of half `h` of block `b` in the result. -/
abbrev oCh (b : Fin 4) (h : Fin 2) (q : Fin 4) : Memref sig .tc .hbm S2048x1024 .bf16 := oAt (oOff b h q) (oOff_inb b h q)
/-- Chunk `q` of half `h` of the device's own block. -/
abbrev aCh (h : Fin 2) (q : Fin 4) : Memref sig .tc .hbm S2048x1024 .bf16 := aAt (aOff h q) (aOff_inb h q)

/-- Where block `b` begins in the result. -/
abbrev bOff (b : Fin 4) : Fin 2 → ℕ := ![16384 * b.val, 0]
theorem bOff_inb (b : Fin 4) : ∀ a, bOff b a + S16384x1024.size a ≤ S65536x1024.size a := by
  revert b; decide +kernel
/-- Block `b` of the result. -/
abbrev bCh (b : Fin 4) : Memref sig .tc .hbm S16384x1024 .bf16 :=
  oM.slice (Rect.unit (s := S65536x1024) (bOff b) S16384x1024.size (bOff_inb b)) (fun _ => rfl)

/-- The barrier semaphore. -/
abbrev barS : Sem sig := (SemArray.scalar (sig.barrier 0 rfl) : Sems sig S_).sem

/-- Where each semaphore lies. -/
def sem : Kd → SemLoc sig
  | .rc true s q => .dma (⟨4 * s.val + q.val, by have := s.isLt; have := q.isLt; omega⟩ : Fin 29)
  | .rc false s q => .dma (⟨12 + (4 * s.val + q.val), by have := s.isLt; have := q.isLt; omega⟩ : Fin 29)
  | .xr => .dma (24 : Fin 29)
  | .sd true => .dma (25 : Fin 29)
  | .sd false => .dma (26 : Fin 29)
  | .xs => .dma (27 : Fin 29)
  | .cp => .dma (28 : Fin 29)
  | .bar => .reg barS

/-- What one contribution to a semaphore counts: a signal one, a copy what it credits. -/
def amt : Kd → ℕ
  | .bar => 1
  | .cp => (bCh 0).view.dmaCredit
  | _ => (oCh 0 0 0).view.dmaCredit

/-- What the `t`-th send of chunk `q` in direction `d` reads: the argument at first, what was received afterwards. -/
def sndSrc (c : Dev nD) (d : Bool) (t : Fin 3) (q : Fin 4) : Memref sig .tc .hbm S2048x1024 .bf16 :=
  if t = 0 then aCh (hb c) q else oCh (blk d t c) (hb c) q

/-! ## An effect that is an operation -/

/-- The effect `e` is the operation of device `c`. -/
def IsOp (c : Dev nD) : Op → TpuEff nD τ sig (Elt F) Λ₀ .tc PUnit → Prop
  | .cpy, e => ∃ h₁ h₂ h₃, e = .enqueueDma aM (.here (bCh (blk true 0 c))) (sem .cp) h₁ h₂ h₃
  | .sig none, e => e = .semSignal (Dev.tc (pa c)) barS ((1 : ℕ) : ℤ)
  | .sig (some d), e => e = .semSignal (Dev.tc (nb d c)) barS ((1 : ℕ) : ℤ)
  | .snd d t q, e => ∃ hs h₁ h₂ h₃, e = .enqueueDma (sndSrc c d t q)
      (.remote (Dev.tc (nb d c)) (oCh (blk d t c) (hb c) q) (sem (.sd d)) hs) (sem (.rc d t q)) h₁ h₂ h₃
  | .par d s q, e => ∃ hs h₁ h₂ h₃, e = .enqueueDma (oCh (blk d (s + 1) c) (hb c) q)
      (.remote (Dev.tc (pa c)) (oCh (blk d (s + 1) c) (hb c) q) (sem .xs) hs) (sem .xr) h₁ h₂ h₃
  | .wait .bar _, e => e = .semWait barS ((1 : ℕ) : ℤ)
  | .wait k _, e => ∃ (i : DmaSem sig) (s : Shape) (src dst : Memref sig .tc .hbm s .bf16) (h₁ : _) (h₂ : _),
      e = .waitDma2 i src dst h₁ h₂ ∧ sem k = .dma i ∧ dst.view.dmaCredit = amt k

/-- The program `p` performs the operations and continues as `p'`. -/
inductive Runs (c : Dev nD) {α : Type} : List Op → Prog (TpuEff nD τ sig (Elt F) Λ₀ .tc) α →
    Prog (TpuEff nD τ sig (Elt F) Λ₀ .tc) α → Prop
  | nil {p} : Runs c [] p p
  | dev {ops f p'} : Runs c ops (f c) p' → Runs c ops (.op .deviceId f) p'
  | skip {o ops p p'} : act c o = false → Runs c ops p p' → Runs c (o :: ops) p p'
  | step {o ops p'} {e : TpuEff nD τ sig (Elt F) Λ₀ .tc PUnit} {k} : act c o = true → IsOp c o e → Runs c ops (k ⟨⟩) p' →
      Runs c (o :: ops) (.op e k) p'

variable {α β : Type} {c : Dev nD}

theorem Runs.trans {ops ops' : List Op} {p p' p'' : Prog (TpuEff nD τ sig (Elt F) Λ₀ .tc) α}
    (h : Runs c ops p p') (h' : Runs c ops' p' p'') : Runs c (ops ++ ops') p p'' := by
  induction h with
  | nil => exact h'
  | dev _ ih => exact .dev (ih h')
  | skip ha _ ih => exact .skip ha (ih h')
  | step ha he _ ih => exact .step ha he (ih h')

theorem Runs.bind {ops : List Op} {p p' : Prog (TpuEff nD τ sig (Elt F) Λ₀ .tc) α} (f : α → Prog (TpuEff nD τ sig (Elt F) Λ₀ .tc) β)
    (h : Runs c ops p p') : Runs c ops (p >>= f) (p' >>= f) := by
  induction h with
  | nil => exact .nil
  | dev _ ih => exact .dev ih
  | skip ha _ ih => exact .skip ha ih
  | step ha he _ ih => exact .step ha he ih

/-- Where a list of operations is two lists, the program stops between them. -/
theorem Runs.split {ops ops' : List Op} {p p'' : Prog (TpuEff nD τ sig (Elt F) Λ₀ .tc) α} (h : Runs c (ops ++ ops') p p'') :
    ∃ p', Runs c ops p p' ∧ Runs c ops' p' p'' := by
  generalize hl : ops ++ ops' = l at h
  induction h generalizing ops with
  | nil =>
    obtain ⟨rfl, rfl⟩ := List.append_eq_nil_iff.mp hl
    exact ⟨_, .nil, .nil⟩
  | dev _ ih => obtain ⟨p', h₁, h₂⟩ := ih hl; exact ⟨p', .dev h₁, h₂⟩
  | @skip o l p p' ha h ih =>
    cases ops with
    | nil => exact ⟨_, .nil, by rw [List.nil_append] at hl; subst hl; exact .skip ha h⟩
    | cons o' ops =>
      obtain ⟨rfl, hl'⟩ := List.cons.inj hl
      obtain ⟨p', h₁, h₂⟩ := ih hl'; exact ⟨p', .skip ha h₁, h₂⟩
  | @step o l p' e k ha he h ih =>
    cases ops with
    | nil => exact ⟨_, .nil, by rw [List.nil_append] at hl; subst hl; exact .step ha he h⟩
    | cons o' ops =>
      obtain ⟨rfl, hl'⟩ := List.cons.inj hl
      obtain ⟨p', h₁, h₂⟩ := ih hl'; exact ⟨p', .step ha he h₁, h₂⟩

/-- The program performs the operations and ends, with a result of which `P` holds. -/
def Ends (c : Dev nD) (ops : List Op) (p : Prog (TpuEff nD τ sig (Elt F) Λ₀ .tc) α) (P : α → Prop) : Prop :=
  ∃ t, P t ∧ Runs c ops p (.ret t)

theorem Ends.done {t : α} {P : α → Prop} (h : P t) : Ends (F := F) c [] (.ret t) P := ⟨t, h, .nil⟩

theorem Ends.dev {ops : List Op} {f : Dev nD → Prog (TpuEff nD τ sig (Elt F) Λ₀ .tc) α} {P : α → Prop} (h : Ends c ops (f c) P) :
    Ends c ops (Prog.lift .deviceId >>= f) P := by
  obtain ⟨t, ht, h⟩ := h; exact ⟨t, ht, .dev h⟩

theorem Ends.bind {ops ops' : List Op} {p : Prog (TpuEff nD τ sig (Elt F) Λ₀ .tc) α} {f : α → Prog (TpuEff nD τ sig (Elt F) Λ₀ .tc) β}
    {P : α → Prop} {P' : β → Prop} (h : Ends c ops p P) (h' : ∀ t, P t → Ends c ops' (f t) P') : Ends c (ops ++ ops') (p >>= f) P' := by
  obtain ⟨t, ht, h⟩ := h
  obtain ⟨t', ht', h'⟩ := h' t ht
  exact ⟨t', ht', (h.bind f).trans h'⟩

/-- A first part performs the first operations of a list, the rest of the program the others. -/
theorem Ends.first {l ops : List Op} {p : Prog (TpuEff nD τ sig (Elt F) Λ₀ .tc) α} {f : α → Prog (TpuEff nD τ sig (Elt F) Λ₀ .tc) β}
    {P : α → Prop} {P' : β → Prop} (h : Ends c ops p P) (h' : ∀ t, P t → Ends c (l.drop ops.length) (f t) P')
    (hl : l = ops ++ l.drop ops.length := by rfl) : Ends c l (p >>= f) P' := by
  rw [hl]; exact h.bind h'

/-- A conditional operation: performed exactly where the device performs it. -/
theorem Ends.cond {o : Op} {ops : List Op} {x : Prop} [Decidable x] {e : x → TpuEff nD τ sig (Elt F) Λ₀ .tc PUnit}
    {p : Prog (TpuEff nD τ sig (Elt F) Λ₀ .tc) α} {P : α → Prop} (hc : x ↔ act c o = true) (he : ∀ h, act c o = true → IsOp c o (e h))
    (hk : Ends c ops p P) : Ends c (o :: ops) (dite x (fun h => Prog.lift (e h) >>= fun _ => p) (fun _ => p)) P := by
  obtain ⟨t, ht, hk⟩ := hk
  refine ⟨t, ht, ?_⟩
  by_cases h : x
  · rw [dif_pos h]; exact .step (hc.mp h) (he h (hc.mp h)) hk
  · rw [dif_neg h]; exact .skip (by rw [Bool.eq_false_iff]; exact fun h' => h (hc.mpr h')) hk

/-- Two operations under one condition. -/
theorem Ends.cond₂ {o o' : Op} {ops : List Op} {x : Prop} [Decidable x] {e e' : x → TpuEff nD τ sig (Elt F) Λ₀ .tc PUnit}
    {p : Prog (TpuEff nD τ sig (Elt F) Λ₀ .tc) α} {P : α → Prop} (hc : x ↔ act c o = true) (hc' : x ↔ act c o' = true)
    (he : ∀ h, act c o = true → IsOp c o (e h)) (he' : ∀ h, act c o = true → IsOp c o' (e' h)) (hk : Ends c ops p P) :
    Ends c (o :: o' :: ops) (dite x (fun h => Prog.lift (e h) >>= fun _ => Prog.lift (e' h) >>= fun _ => p) (fun _ => p)) P := by
  obtain ⟨t, ht, hk⟩ := hk
  refine ⟨t, ht, ?_⟩
  by_cases h : x
  · rw [dif_pos h]; exact .step (hc.mp h) (he h (hc.mp h)) (.step (hc'.mp h) (he' h (hc.mp h)) hk)
  · rw [dif_neg h]
    exact .skip (by rw [Bool.eq_false_iff]; exact fun h' => h (hc.mpr h')) (.skip (by rw [Bool.eq_false_iff]; exact fun h' => h (hc'.mpr h')) hk)

/-- An operation that every device performs. -/
theorem Ends.always {o : Op} {ops : List Op} {e : TpuEff nD τ sig (Elt F) Λ₀ .tc PUnit}
    {k : PUnit → Prog (TpuEff nD τ sig (Elt F) Λ₀ .tc) α} {P : α → Prop}
    (hc : ∀ c, act c o = true) (he : IsOp c o e) (hk : Ends c ops (k ⟨⟩) P) : Ends c (o :: ops) (Prog.lift e >>= k) P := by
  obtain ⟨t, ht, hk⟩ := hk
  exact ⟨t, ht, .step (hc c) he hk⟩

/-! ## Recognising an operation -/

/-- A transfer to another device is known by its source, target, destination and semaphores. -/
theorem remote_eq {src src' dst dst' : Memref sig .tc .hbm S2048x1024 .bf16} {n n' : Dev nD} {i i' j j' : SemLoc sig}
    (e₁ : src = src') (e₂ : dst = dst') (e₃ : n = n') (e₄ : i' = i) (e₅ : j' = j)
    {hs : dst.view.ref.isScScratch = false} {h₁ : src.view.WordExact} {h₂ : dst.view.WordExact}
    {h₃ : DmaTarget.Typed (nD := nD) (τ := τ) (p := .tc) .hbm j (.remote (Dev.tc n) dst i hs)} :
    ∃ hs h₁ h₂ h₃, (TpuEff.enqueueDma src (.remote (Dev.tc n) dst i hs) j ‹_› ‹_› ‹_› : TpuEff nD τ sig (Elt F) Λ₀ .tc PUnit)
      = .enqueueDma src' (.remote (Dev.tc n') dst' i' hs) j' h₁ h₂ h₃ := by
  subst e₁ e₂ e₃ e₄ e₅
  exact ⟨_, _, _, _, rfl⟩

theorem oSlice_eq {off off' : Fin 2 → ℕ} (e : off = off') {inb inb'} : oAt off inb = oAt off' inb' := by subst e; rfl
theorem aSlice_eq {off off' : Fin 2 → ℕ} (e : off = off') {inb inb'} : aAt off inb = aAt off' inb' := by subst e; rfl

/-- A conditional wait of the program on semaphore `k`. -/
theorem Ends.wait {k : Kd} {y : Dt} {ops : List Op} {x : Dev nD → BitVec 1} {i : DmaSem sig} {src dst : x c = 1#1 → Memref sig .tc .hbm S2048x1024 .bf16}
    {h₁ : ∀ h, (src h).view.WordExact} {h₂ : ∀ h, (dst h).view.WordExact}
    {p : Prog (TpuEff nD τ sig (Elt F) Λ₀ .tc) α} {P : α → Prop} (hk : Ends c ops p P)
    (hc : ∀ c, x c = 1#1 ↔ act c (.wait k y) = true := by decide +kernel) (hi : sem k = .dma i := by rfl)
    (hn : ∀ h, (dst h).view.dmaCredit = amt k := by intro _; rfl) :
    Ends c (.wait k y :: ops) (dite (x c = 1#1) (fun h => Prog.lift (.waitDma2 i (src h) (dst h) (h₁ h) (h₂ h)) >>= fun _ => p) (fun _ => p)) P :=
  Ends.cond (hc c) (fun h _ => by
    cases k with
    | bar => cases hi
    | _ => exact ⟨i, _, _, _, _, _, rfl, hi, hn h⟩) hk

/-- A conditional first send of the program: a chunk of the device's own block. -/
theorem Ends.own {d : Bool} {q : Fin 4} {ops : List Op} {x : Dev nD → BitVec 1} {i j : DmaSem sig} {off off' : Dev nD → Fin 2 → ℕ} {n : Dev nD → ℕ}
    {inb : ∀ _ : x c = 1#1, ∀ a, off c a + S2048x1024.size a ≤ S65536x1024.size a}
    {inb' : ∀ _ : x c = 1#1, ∀ a, off' c a + S2048x1024.size a ≤ S16384x1024.size a} {hn : x c = 1#1 → n c < nD}
    {hs : ∀ h, (oAt (off c) (inb h)).view.ref.isScScratch = false}
    {h₁ : ∀ h, (aAt (off' c) (inb' h)).view.WordExact}
    {h₂ : ∀ h, (oAt (off c) (inb h)).view.WordExact}
    {h₃ : ∀ h, DmaTarget.Typed (nD := nD) (τ := τ) (p := .tc) .hbm (.dma j) (.remote (Dev.tc (⟨n c, hn h⟩ : Dev nD))
      (oAt (off c) (inb h)) (.dma i) (hs h))}
    {p : Prog (TpuEff nD τ sig (Elt F) Λ₀ .tc) α} {P : α → Prop} (hk : Ends c ops p P)
    (hc : ∀ c, (x c = 1#1 ↔ act c (.snd d 0 q) = true) ∧ (act c (.snd d 0 q) = true →
      off c = oOff (blk d 0 c) (hb c) q ∧ off' c = aOff (hb c) q ∧ n c = (nb d c).val) := by decide +kernel)
    (hi : sem (.sd d) = .dma i := by rfl) (hj : sem (.rc d 0 q) = .dma j := by rfl) :
    Ends c (.snd d 0 q :: ops) (dite (x c = 1#1) (fun h => Prog.lift (.enqueueDma (aAt (off' c) (inb' h))
      (.remote (Dev.tc (⟨n c, hn h⟩ : Dev nD)) (oAt (off c) (inb h)) (.dma i) (hs h))
      (.dma j) (h₁ h) (h₂ h) (h₃ h)) >>= fun _ => p) (fun _ => p)) P :=
  Ends.cond (hc c).1 (fun _ ha => remote_eq (aSlice_eq ((hc c).2 ha).2.1) (oSlice_eq ((hc c).2 ha).1) (Fin.ext ((hc c).2 ha).2.2) hi hj) hk

/-- A conditional later send of the program: a chunk that has been received. -/
theorem Ends.fwd {d : Bool} {t : Fin 3} {q : Fin 4} {ops : List Op} {x : Dev nD → BitVec 1} {i j : DmaSem sig} {off : Dev nD → Fin 2 → ℕ} {n : Dev nD → ℕ}
    {inb : ∀ _ : x c = 1#1, ∀ a, off c a + S2048x1024.size a ≤ S65536x1024.size a} {hn : x c = 1#1 → n c < nD}
    {hs : ∀ h, (oAt (off c) (inb h)).view.ref.isScScratch = false}
    {h₁ h₂ : ∀ h, (oAt (off c) (inb h)).view.WordExact}
    {h₃ : ∀ h, DmaTarget.Typed (nD := nD) (τ := τ) (p := .tc) .hbm (.dma j) (.remote (Dev.tc (⟨n c, hn h⟩ : Dev nD))
      (oAt (off c) (inb h)) (.dma i) (hs h))}
    {p : Prog (TpuEff nD τ sig (Elt F) Λ₀ .tc) α} {P : α → Prop} (hk : Ends c ops p P)
    (hc : ∀ c, (x c = 1#1 ↔ act c (.snd d t q) = true) ∧ (act c (.snd d t q) = true →
      off c = oOff (blk d t c) (hb c) q ∧ n c = (nb d c).val) := by decide +kernel)
    (hi : sem (.sd d) = .dma i := by rfl) (hj : sem (.rc d t q) = .dma j := by rfl) (ht : t ≠ 0 := by decide) :
    Ends c (.snd d t q :: ops) (dite (x c = 1#1) (fun h => Prog.lift (.enqueueDma (oAt (off c) (inb h))
      (.remote (Dev.tc (⟨n c, hn h⟩ : Dev nD)) (oAt (off c) (inb h)) (.dma i) (hs h))
      (.dma j) (h₁ h) (h₂ h) (h₃ h)) >>= fun _ => p) (fun _ => p)) P :=
  Ends.cond (hc c).1 (fun _ ha => by
    have hsrc : sndSrc c d t q = oCh (blk d t c) (hb c) q := if_neg ht
    exact remote_eq ((oSlice_eq ((hc c).2 ha).1).trans hsrc.symm) (oSlice_eq ((hc c).2 ha).1) (Fin.ext ((hc c).2 ha).2) hi hj) hk

/-- A conditional hand-over of the program to the other plane. -/
theorem Ends.par {d : Bool} {s : Fin 3} {q : Fin 4} {ops : List Op} {x : Dev nD → BitVec 1} {i j : DmaSem sig} {off : Dev nD → Fin 2 → ℕ} {n : Dev nD → ℕ}
    {inb : ∀ _ : x c = 1#1, ∀ a, off c a + S2048x1024.size a ≤ S65536x1024.size a} {hn : x c = 1#1 → n c < nD}
    {hs : ∀ h, (oAt (off c) (inb h)).view.ref.isScScratch = false}
    {h₁ h₂ : ∀ h, (oAt (off c) (inb h)).view.WordExact}
    {h₃ : ∀ h, DmaTarget.Typed (nD := nD) (τ := τ) (p := .tc) .hbm (.dma j) (.remote (Dev.tc (⟨n c, hn h⟩ : Dev nD))
      (oAt (off c) (inb h)) (.dma i) (hs h))}
    {p : Prog (TpuEff nD τ sig (Elt F) Λ₀ .tc) α} {P : α → Prop} (hk : Ends c ops p P)
    (hc : ∀ c, (x c = 1#1 ↔ act c (.par d s q) = true) ∧ (act c (.par d s q) = true →
      off c = oOff (blk d (s + 1) c) (hb c) q ∧ n c = (pa c).val) := by decide +kernel)
    (hi : sem .xs = .dma i := by rfl) (hj : sem .xr = .dma j := by rfl) :
    Ends c (.par d s q :: ops) (dite (x c = 1#1) (fun h => Prog.lift (.enqueueDma (oAt (off c) (inb h))
      (.remote (Dev.tc (⟨n c, hn h⟩ : Dev nD)) (oAt (off c) (inb h)) (.dma i) (hs h))
      (.dma j) (h₁ h) (h₂ h) (h₃ h)) >>= fun _ => p) (fun _ => p)) P :=
  Ends.cond (hc c).1 (fun _ ha => remote_eq (oSlice_eq ((hc c).2 ha).1) (oSlice_eq ((hc c).2 ha).1) (Fin.ext ((hc c).2 ha).2) hi hj) hk

/-- The local copy of the program. -/
theorem isOp_cpy (c : Dev nD) {off : Dev nD → Fin 2 → ℕ} (hc : ∀ c, off c = bOff (blk true 0 c) := by decide +kernel)
    {inb : ∀ a, off c a + S16384x1024.size a ≤ S65536x1024.size a} {h₁ : aM.view.WordExact}
    {h₂ : (oM.slice (Rect.unit (s := S65536x1024) (off c) S16384x1024.size inb) (fun _ => rfl)).view.WordExact}
    {h₃ : DmaTarget.Typed (nD := nD) (τ := τ) (p := .tc) .hbm (.dma (28 : Fin 29))
      (.here (oM.slice (Rect.unit (s := S65536x1024) (off c) S16384x1024.size inb) (fun _ => rfl)))} :
    IsOp (F := F) c .cpy (.enqueueDma aM (.here (oM.slice (Rect.unit (s := S65536x1024) (off c) S16384x1024.size inb) (fun _ => rfl)))
      (.dma (28 : Fin 29)) h₁ h₂ h₃) := by
  have e := hc c
  generalize off c = o at *
  subst e
  exact ⟨_, _, _, rfl⟩

/-- A conditional signal of the program to a neighbour, with the wait for the neighbour's. -/
theorem Ends.sync {d : Bool} {ops : List Op} {x : Dev nD → BitVec 1} {n : Dev nD → ℕ} {hn : x c = 1#1 → n c < nD}
    {p : Prog (TpuEff nD τ sig (Elt F) Λ₀ .tc) α} {P : α → Prop} (hk : Ends c ops p P)
    (hc : ∀ c, (x c = 1#1 ↔ act c (.sig (some d)) = true) ∧ (x c = 1#1 ↔ act c (.wait .bar (d, 0, 0)) = true) ∧
      (x c = 1#1 → n c = (nb d c).val) := by decide +kernel) :
    Ends c (.sig (some d) :: .wait .bar (d, 0, 0) :: ops) (dite (x c = 1#1) (fun h => semSignalWord (⟨n c, hn h⟩ : Dev nD) barS 1#32 >>=
      fun _ => semWaitWord barS 1#32 >>= fun _ => p) (fun _ => p)) P :=
  Ends.cond₂ (hc c).1 (hc c).2.1 (fun h _ => by
    have e : (⟨n c, hn h⟩ : Dev nD) = nb d c := Fin.ext ((hc c).2.2 h)
    rw [e]; rfl) (fun _ _ => rfl) hk

/-- The signal of the program to the other plane. -/
theorem isOp_sig (c : Dev nD) {n : Dev nD → ℕ} {hn : n c < nD} (hc : ∀ c, n c = (pa c).val := by decide +kernel) :
    IsOp (F := F) c (.sig none) (.semSignal (Dev.tc (⟨n c, hn⟩ : Dev nD)) barS (1#32).toInt) := by
  have e : (⟨n c, hn⟩ : Dev nD) = pa c := Fin.ext (hc c)
  rw [e]; rfl

end Cert.Gather
-- ==== Proof.Sched.lean ====
/-
# Contents, and what each semaphore hands over

The values that the parts of the result hold, and the schedule of the semaphores: which contributions the semaphore `k` of device `c`
gets, and which part of a buffer each contribution hands to the device that waits for it.
-/
module

public import proofs.«01_k».proof.Proof.Text
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ghost state of the semaphores. -/
abbrev UB : Type := URounds (GSem nD τ sig) Dt
/-- With that of the launch. -/
abbrev UU : Type := UR sig nD τ × UB

local notation "𝕄" => MT nD τ sig Dt (Elt F) ℕ UU ℕ

abbrev EP : Emb (UR sig nD τ) (MT nD τ sig Dt (Elt F) ℕ UU ℕ) := embL
abbrev ER : Emb UB (MT nD τ sig Dt (Elt F) ℕ UU ℕ) := embR

/-- `P` where `b` holds, and nothing otherwise. -/
def gate (b : Bool) (P : sProp (MT nD τ sig Dt (Elt F) ℕ UU ℕ)) : sProp (MT nD τ sig Dt (Elt F) ℕ UU ℕ) := match b with
  | true => P
  | false => iprop(emp)

theorem gate_true (P : sProp 𝕄) : gate true P = P := rfl
theorem gate_false (P : sProp 𝕄) : gate false P = iprop(emp) := rfl

instance gate_storable (b : Bool) (P : sProp 𝕄) [BI.Storable (upEmb : UEmb _ 𝕄) P] : BI.Storable (upEmb : UEmb _ 𝕄) (gate b P) := by
  cases b <;> unfold gate <;> infer_instance

/-! ## Contents -/

variable (m : (ℓ : Loc nD τ sig) → Buf (Elt F) ℓ)

/-- The block a row of the result belongs to. -/
def blkOf (i : S65536x1024.Idx) : Fin 4 := ⟨(i 0).val / 16384, by have h : (i 0).val < 65536 := (i 0).isLt; omega⟩
/-- The half of its block a row of the result belongs to. -/
def halfOf (i : S65536x1024.Idx) : Fin 2 := ⟨(i 0).val / 8192 % 2, Nat.mod_lt _ (by decide)⟩
/-- The place of an element of the result in its block. -/
def inBlk (i : S65536x1024.Idx) : S16384x1024.Idx := fun
  | 0 => (⟨(i 0).val % 16384, Nat.mod_lt _ (by decide)⟩ : Fin 16384)
  | 1 => (i 1 : Fin 1024)

/-- The device of line `y` and plane `h` that holds block `b`. -/
def devOf (y : Fin 4) (h : Fin 2) (b : Fin 4) : Dev nD :=
  ⟨16 * h.val + 4 * y.val + b.val, by have := y.isLt; have := h.isLt; have := b.isLt; show _ < 32; omega⟩

/-- The argument of device `c` laid out over the blocks of the result: what the local copy writes to the device's own block. -/
def own (c : Dev nD) : Buf (Elt F) ((c : Thread nD τ).loc main_v1) :=
  fun i => (m ((c : Thread nD τ).loc main_arg0) : S16384x1024.Idx → Elt F .bf16) (inBlk i)

/-- What travels to device `c`: at a row of block `b` and half `h` the argument of the device of its line that sends this half of this
    block, in plane `h`. -/
def gold (c : Dev nD) : Buf (Elt F) ((c : Thread nD τ).loc main_v1) :=
  fun i => (m ((devOf (yc c) (halfOf i) (blkOf i) : Thread nD τ).loc main_arg0) : S16384x1024.Idx → Elt F .bf16) (inBlk i)

/-- The result of device `c`: its own argument at its own block, what travels to it elsewhere. -/
def result (c : Dev nD) : Buf (Elt F) ((c : Thread nD τ).loc main_v1) :=
  fun i => if blkOf i = blk true 0 c then own m c i else gold m c i

/-! ## Parts of the buffers -/

/-- A chunk of the result of device `c`. -/
def oPts (c : Dev nD) (b : Fin 4) (h : Fin 2) (q : Fin 4) (π : PosShare TreeShare) (f : Buf (Elt F) ((c : Thread nD τ).loc main_v1)) : sProp 𝕄 :=
  (oCh b h q).view.loc (c : Thread nD τ) ↦[(oCh b h q).view.set]{π} f

/-- A block of the result of device `c`. -/
def bPts (c : Dev nD) (b : Fin 4) (f : Buf (Elt F) ((c : Thread nD τ).loc main_v1)) : sProp 𝕄 :=
  (bCh b).view.loc (c : Thread nD τ) ↦[(bCh b).view.set]{fullShare} f

/-- A chunk of the argument of device `c`, with its contents. -/
def aPts (c : Dev nD) (h : Fin 2) (q : Fin 4) (π : PosShare TreeShare) : sProp 𝕄 :=
  (aCh h q).view.loc (c : Thread nD τ) ↦[(aCh h q).view.set]{π} m ((c : Thread nD τ).loc main_arg0)

/-- The whole argument of device `c`, with its contents. -/
def wPts (c : Dev nD) (π : PosShare TreeShare) : sProp 𝕄 :=
  (aM : Memref sig .tc .hbm S16384x1024 .bf16).view.loc (c : Thread nD τ) ↦[(aM : Memref sig .tc .hbm S16384x1024 .bf16).view.set]{π} m ((c : Thread nD τ).loc main_arg0)

/-- A chunk of the result of device `c`, with any contents. -/
def oAny (c : Dev nD) (b : Fin 4) (h : Fin 2) (q : Fin 4) : sProp 𝕄 := iprop(∃ f, oPts (F := F) c b h q fullShare f)

instance oPts_storable (c : Dev nD) (b h q π f) : BI.Storable (upEmb : UEmb _ 𝕄) (oPts (F := F) c b h q π f) := by unfold oPts; infer_instance
instance bPts_storable (c : Dev nD) (b f) : BI.Storable (upEmb : UEmb _ 𝕄) (bPts (F := F) c b f) := by unfold bPts; infer_instance
instance aPts_storable (c : Dev nD) (h q π) : BI.Storable (upEmb : UEmb _ 𝕄) (aPts (F := F) m c h q π) := by unfold aPts; infer_instance
instance wPts_storable (c : Dev nD) (π) : BI.Storable (upEmb : UEmb _ 𝕄) (wPts (F := F) m c π) := by unfold wPts; infer_instance
instance oAny_storable (c : Dev nD) (b h q) : BI.Storable (upEmb : UEmb _ 𝕄) (oAny (F := F) c b h q) := by unfold oAny; infer_instance

/-- The share of the argument that the sends of one direction read. -/
def shA (d : Bool) : PosShare TreeShare := if d then fullShare.right.left else fullShare.right.right

/-! ## What the contributions hand over -/

/-- The buffers that device `c` gets to write on its neighbour in direction `d`. -/
def landRow (c : Dev nD) (d : Bool) : sProp 𝕄 :=
  bigSep Finset.univ fun y : Dt => gate (decide (y.1 = d) && act c (.snd y.1 y.2.1 y.2.2)) (oAny (F := F) (nb y.1 c) (blk y.1 y.2.1.val c) (hb c) y.2.2)

/-- The buffers that device `c` gets to write on the device of the other plane. -/
def landPair (c : Dev nD) : sProp 𝕄 :=
  bigSep Finset.univ fun y : Dt => gate (act c (.par y.1 y.2.1 y.2.2)) (oAny (F := F) (pa c) (blk y.1 (y.2.1.val + 1) c) (hb c) y.2.2)

instance landRow_storable (c : Dev nD) (d : Bool) : BI.Storable (upEmb : UEmb _ 𝕄) (landRow (F := F) c d) := by unfold landRow; infer_instance
instance landPair_storable (c : Dev nD) : BI.Storable (upEmb : UEmb _ 𝕄) (landPair (F := F) c) := by unfold landPair; infer_instance

/-- What the `t`-th send of a chunk reads. -/
def srcPts (c : Dev nD) (y : Dt) : sProp 𝕄 :=
  if y.2.1 = 0 then aPts m c (hb c) y.2.2 (shA y.1) else oPts c (blk y.1 y.2.1.val c) (hb c) y.2.2 fullShare.left (gold m c)

instance srcPts_storable (c : Dev nD) (y : Dt) : BI.Storable (upEmb : UEmb _ 𝕄) (srcPts (F := F) m c y) := by unfold srcPts; split <;> infer_instance

/-- What the contribution `y` to the semaphore `k` of device `c` hands over: a receive semaphore, the chunk that arrives; a send semaphore,
    what the transfer read; the local copy, the own block and the argument; the barrier, the buffers to write on the device that signals. -/
def pay (c : Dev nD) : Kd → Dt → sProp 𝕄
  | .rc _ _ _, y => oPts c (blk y.1 (y.2.1.val + 1) c) (hb c) y.2.2 fullShare (gold m c)
  | .xr, y => oPts c (blk y.1 (y.2.1.val + 1) c) (ob c) y.2.2 fullShare (gold m c)
  | .sd _, y => srcPts m c y
  | .xs, y => oPts c (blk y.1 (y.2.1.val + 1) c) (hb c) y.2.2 fullShare.right (gold m c)
  | .cp, _ => iprop(bPts c (blk true 0 c) (own m c) ∗ wPts m c fullShare.left)
  | .bar, (d, s, _) => if s = 0 then landRow c d else landPair c

instance pay_storable (c : Dev nD) (k : Kd) (y : Dt) : BI.Storable (upEmb : UEmb _ 𝕄) (pay (F := F) m c k y) := by
  cases k <;> obtain ⟨d, s, q⟩ := y <;> unfold pay <;> dsimp only <;> first | infer_instance | (split <;> infer_instance)

/-! ## The schedule -/

/-- The semaphores of one device. -/
def kinds : List Kd := steps.map (fun y => .rc y.1 y.2.1 y.2.2) ++ [.bar, .xr, .sd true, .sd false, .xs, .cp]

/-- Which semaphore lies at a place. -/
def kof (l : SemLoc sig) : Option Kd := kinds.find? fun k => decide (sem k = l)

theorem kof_sem (k : Kd) : kof (sem k) = some k := by revert k; decide +kernel

theorem sem_inj {k k' : Kd} (h : sem k = sem k') : k = k' := Option.some.inj (by rw [← kof_sem k, ← kof_sem k', h])

/-- The semaphore `k` of device `c`. -/
abbrev cell (c : Dev nD) (k : Kd) : GSem nD τ sig := ((c : Thread nD τ), sem k)

theorem cell_inj {c c' : Dev nD} {k k' : Kd} (h : cell c k = cell c' k') : c = c' ∧ k = k' :=
  ⟨congrArg (fun g : GSem nD τ sig => g.1.1) h, sem_inj (congrArg Prod.snd h)⟩

theorem amt_pos (k : Kd) : 0 < amt k := by
  cases k <;> first | exact Nat.one_pos | exact View.dmaCredit_pos _ (by decide)

/-- The contributions to the semaphore `k` of device `c`. -/
def duts (c : Dev nD) (k : Kd) : Finset Dt := Finset.univ.filter fun y => duty c k y = true

theorem mem_duts {c : Dev nD} {k : Kd} {y : Dt} : y ∈ duts c k ↔ duty c k y = true := by unfold duts; simp

/-- The schedule: every semaphore has one round. -/
def sch : Rounds.Schedule (GSem nD τ sig) Dt 𝕄 where
  duties g r := match kof g.2 with
    | some k => if r = 0 ∧ g.1.2 = .tc then duts g.1.1 k else ∅
    | none => ∅
  amount g _ _ := match kof g.2 with
    | some k => amt k
    | none => 1
  payload g _ y := match kof g.2 with
    | some k => pay m g.1.1 k y
    | none => iprop(emp)
  amount_pos g _ _ _ := by split; exacts [amt_pos _, Nat.one_pos]

instance sch_storable (g : GSem nD τ sig) (r : ℕ) (y : Dt) : BI.Storable (upEmb : UEmb _ 𝕄) ((sch (F := F) m).payload g r y) := by
  show BI.Storable upEmb (match kof g.2 with | some k => pay m g.1.1 k y | none => iprop(emp))
  split <;> infer_instance

variable (c : Dev nD) (k : Kd) (y : Dt)

theorem duties_eq : (sch (F := F) m).duties (cell c k) 0 = duts c k := by
  dsimp only [sch]; rw [kof_sem]; exact if_pos ⟨rfl, rfl⟩

theorem duties_later (r : ℕ) (h : 1 ≤ r) : (sch (F := F) m).duties (cell c k) r = ∅ := by
  dsimp only [sch]; rw [kof_sem]; exact if_neg fun h' => by omega

theorem amount_eq (r : ℕ) : (sch (F := F) m).amount (cell c k) r y = amt k := by
  dsimp only [sch]; rw [kof_sem]

theorem payload_eq (r : ℕ) : (sch (F := F) m).payload (cell c k) r y = pay m c k y := by
  dsimp only [sch]; rw [kof_sem]

theorem amountOf_eq (T : Finset Dt) (r : ℕ) : (sch (F := F) m).amountOf (cell c k) r T = T.card * amt k := by
  unfold Schedule.amountOf
  rw [Finset.sum_congr rfl fun d _ => amount_eq m c k d r, Finset.sum_const, smul_eq_mul]

theorem expect_eq : (sch (F := F) m).expect (cell c k) 0 = (duts c k).card * amt k := by
  unfold Schedule.expect; rw [amountOf_eq, duties_eq]

theorem payloads_eq (T : Finset Dt) (r : ℕ) : bigSep T (fun y => (sch (F := F) m).payload (cell c k) r y) = bigSep T (fun y => pay m c k y) := by
  exact bigSep_congr fun y _ => payload_eq m c k y r

/-! ## What a device owes, and the order of the waits -/

/-- What device `c` owes before an operation that raises a semaphore of another device. -/
def term (c : Dev nD) (o : Op) : CellTallies nD τ sig Dt :=
  match pays o with
  | some (σ, k, y) => if act c o = true then tallyAt (cell (σ c) k) y (amt k) else 0
  | none => 0

/-- What device `c` owes before a list of operations. -/
def owed (c : Dev nD) (ops : List Op) : CellTallies nD τ sig Dt := (ops.map (term c)).sum

theorem owed_cons (c : Dev nD) (o : Op) (ops : List Op) : owed c (o :: ops) = owed c ops + term c o := by
  unfold owed; rw [List.map_cons, List.sum_cons, add_comm]

theorem term_pos {c : Dev nD} {o : Op} {g : GSem nD τ sig} {i : Dt} (h : 0 < term c o g i) :
    ∃ σ k, pays o = some (σ, k, i) ∧ act c o = true ∧ g = cell (σ c) k := by
  unfold term at h
  cases hp : pays o with
  | none => rw [hp] at h; exact absurd h (Nat.lt_irrefl 0)
  | some w =>
    obtain ⟨σ, k, y⟩ := w
    rw [hp] at h
    dsimp only at h
    by_cases ha : act c o = true
    · rw [if_pos ha] at h
      obtain ⟨hg, hi⟩ := Pipeline.tallyAt_pos h
      subst hi
      exact ⟨σ, k, rfl, ha, hg⟩
    · rw [if_neg ha] at h; exact absurd h (Nat.lt_irrefl 0)

theorem owed_pos {c : Dev nD} {ops : List Op} {g : GSem nD τ sig} {i : Dt} (h : 0 < owed c ops g i) :
    ∃ o ∈ ops, 0 < term c o g i := by
  induction ops with
  | nil => exact absurd h (Nat.lt_irrefl 0)
  | cons o ops ih =>
    rw [owed_cons] at h
    rcases Pipeline.add_pos_cases h with h | h
    · obtain ⟨o', ho, h⟩ := ih h; exact ⟨o', List.mem_cons_of_mem _ ho, h⟩
    · exact ⟨o, List.mem_cons_self, h⟩

/-- The contributions that have a level. -/
def L (g : GSem nD τ sig) : Finset Dt := if g.1.2 = .tc then Finset.univ else ∅
/-- The level of a contribution. -/
def lv (g : GSem nD τ sig) (i : Dt) : ℕ := match kof g.2 with
  | some k => lev g.1.1 k i
  | none => 0

theorem L_of_ne (g : GSem nD τ sig) (h : g.1.2 ≠ .tc) : L g = ∅ := if_neg h
theorem mem_L (c : Dev nD) (s : SemLoc sig) (i : Dt) : i ∈ L ((c : Thread nD τ), s) := by
  unfold L; rw [if_pos rfl]; exact Finset.mem_univ _
theorem lv_eq (c : Dev nD) (k : Kd) (i : Dt) : lv (cell c k) i = lev c k i := by unfold lv; rw [kof_sem]

/-- A wait is allowed where all that is raised later is of a higher level. -/
theorem mayWait {c : Dev nD} {k : Kd} {y : Dt} {ops : List Op} (ho : ok c (.wait k y :: ops) = true) (hd : duty c k y = true) :
    (levAts L lv : sProp 𝕄) ⊢ MayWait (c : Thread nD τ) (sem k) y (owed c ops) := by
  refine Pipeline.mayWait_of_levAts (mem_L c (sem k) y) fun g i h => ?_
  obtain ⟨o, hmem, h⟩ := owed_pos h
  obtain ⟨σ, k', hp, ha, rfl⟩ := term_pos h
  refine ⟨mem_L _ _ _, ?_⟩
  rw [show ((c : Thread nD τ), sem k) = cell c k from rfl, lv_eq, lv_eq]
  unfold ok at ho
  rw [hd, Bool.not_true, Bool.false_or, Bool.and_eq_true, Bool.not_eq_true', List.any_eq_false] at ho
  have hb := ho.1 o hmem
  unfold below at hb
  rw [hp] at hb
  simp only [ha, Bool.true_and, decide_eq_true_eq, not_le] at hb
  exact hb

end Cert.Gather
-- ==== Proof.Vals.lean ====
/-
# What the transfers write

The contents a transfer leaves in a chunk of the result, and where the chunks of the result and of the argument lie.
-/
module

public import proofs.«01_k».proof.Proof.Sched
public import Idealize.ShloMosaic.Lib.Pipeline.ValueKit.Geometry

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable (m : (ℓ : Loc nD τ sig) → Buf (Elt F) ℓ)

/-! ## Where chunks and blocks lie -/

/-- A row lies in a chunk of the result exactly if it is among its 2048 rows. -/
theorem mem_oCh {b : Fin 4} {h : Fin 2} {q : Fin 4} {i : S65536x1024.Idx} : i ∈ (oCh b h q).view.set ↔
    16384 * b.val + 8192 * h.val + 2048 * q.val ≤ (i 0).val ∧ (i 0).val < 16384 * b.val + 8192 * h.val + 2048 * q.val + 2048 := by
  refine Idealize.ShloMosaic.ValueKit.mem_set_slice_whole_iff main_v1 _ i (Rect.mem_set_unit.trans ?_)
  refine Fin.forall_fin_two.trans ?_
  have h1 : (i 1).val < 1024 := (i 1).isLt
  show ((_ ≤ _ ∧ _ < _) ∧ (0 ≤ (i 1).val ∧ (i 1).val < 0 + 1024)) ↔ _
  exact ⟨fun h => h.1, fun h => ⟨h, by omega⟩⟩

/-- A row lies in a block of the result exactly if it is among its 16384 rows. -/
theorem mem_bCh {b : Fin 4} {i : S65536x1024.Idx} : i ∈ (bCh b).view.set ↔ 16384 * b.val ≤ (i 0).val ∧ (i 0).val < 16384 * b.val + 16384 := by
  refine Idealize.ShloMosaic.ValueKit.mem_set_slice_whole_iff main_v1 _ i (Rect.mem_set_unit.trans ?_)
  refine Fin.forall_fin_two.trans ?_
  have h1 : (i 1).val < 1024 := (i 1).isLt
  show ((_ ≤ _ ∧ _ < _) ∧ (0 ≤ (i 1).val ∧ (i 1).val < 0 + 1024)) ↔ _
  exact ⟨fun h => h.1, fun h => ⟨h, by omega⟩⟩

/-- A row lies in a chunk of the argument exactly if it is among its 2048 rows. -/
theorem mem_aCh {h : Fin 2} {q : Fin 4} {i : S16384x1024.Idx} : i ∈ (aCh h q).view.set ↔
    8192 * h.val + 2048 * q.val ≤ (i 0).val ∧ (i 0).val < 8192 * h.val + 2048 * q.val + 2048 := by
  refine Idealize.ShloMosaic.ValueKit.mem_set_slice_whole_iff main_arg0 _ i (Rect.mem_set_unit.trans ?_)
  refine Fin.forall_fin_two.trans ?_
  have h1 : (i 1).val < 1024 := (i 1).isLt
  show ((_ ≤ _ ∧ _ < _) ∧ (0 ≤ (i 1).val ∧ (i 1).val < 0 + 1024)) ↔ _
  exact ⟨fun h => h.1, fun h => ⟨h, by omega⟩⟩

theorem blkOf_oCh {b : Fin 4} {h : Fin 2} {q : Fin 4} {i : S65536x1024.Idx} (hi : i ∈ (oCh b h q).view.set) : blkOf i = b := by
  have := mem_oCh.mp hi; have := b.isLt; have := h.isLt; have := q.isLt
  exact Fin.ext (by show (i 0).val / 16384 = b.val; omega)

theorem halfOf_oCh {b : Fin 4} {h : Fin 2} {q : Fin 4} {i : S65536x1024.Idx} (hi : i ∈ (oCh b h q).view.set) : halfOf i = h := by
  have := mem_oCh.mp hi; have := b.isLt; have := h.isLt; have := q.isLt
  exact Fin.ext (by show (i 0).val / 8192 % 2 = h.val; omega)

theorem blkOf_bCh {b : Fin 4} {i : S65536x1024.Idx} (hi : i ∈ (bCh b).view.set) : blkOf i = b := by
  have := mem_bCh.mp hi; have := b.isLt
  exact Fin.ext (by show (i 0).val / 16384 = b.val; omega)

/-! ## The devices of a line -/

theorem devOf_self (d : Bool) (c : Dev nD) : devOf (yc c) (hb c) (blk d 0 c) = c := by revert c d; decide +kernel
theorem yc_nb {d : Bool} {c : Dev nD} (h : has d c = true) : yc (nb d c) = yc c := by revert c d; decide +kernel
theorem hb_nb {d : Bool} {c : Dev nD} (h : has d c = true) : hb (nb d c) = hb c := by revert c d; decide +kernel
theorem blk_nb {d : Bool} {c : Dev nD} (h : has d c = true) (t : Fin 3) : blk d (t.val + 1) (nb d c) = blk d t.val c := by
  revert c d t; decide +kernel
theorem blk_nb_not {d : Bool} {c : Dev nD} (h : has d c = true) (t : Fin 3) : blk (!d) t.val (nb d c) = blk (!d) (t.val + 1) c := by
  revert c d t; decide +kernel
theorem act_nb_not {d : Bool} {c : Dev nD} (h : has d c = true) (t : Fin 3) (q : Fin 4) :
    act (nb d c) (.snd (!d) t q) = decide (t.val < room (!d) c) := by
  revert c d t q; decide +kernel
theorem nb_nb_not (d : Bool) (c : Dev nD) : nb (!d) (nb d c) = c := nx_nx d c
theorem room_not_of_not_has {d : Bool} {c : Dev nD} (h : has d c = false) : room (!d) c = 0 := by
  unfold has at h; rw [decide_eq_false_iff_not] at h; omega
theorem pa_pa (c : Dev nD) : pa (pa c) = c := px_px c
theorem yc_pa (c : Dev nD) : yc (pa c) = yc c := by revert c; decide +kernel
theorem hb_pa (c : Dev nD) : hb (pa c) = ob c := by revert c; decide +kernel
theorem ob_pa (c : Dev nD) : ob (pa c) = hb c := by revert c; decide +kernel
theorem blk_pa (d : Bool) (n : ℕ) (c : Dev nD) : blk d n (pa c) = blk d n c := by
  have h : zc (pa c) = zc c := by revert c; decide +kernel
  exact Fin.ext (by show (if d then zc (pa c) + 4 - n else zc (pa c) + n) % 4 = _; rw [h]; rfl)
theorem room_pa (d : Bool) (c : Dev nD) : room d (pa c) = room d c := by
  have h : zc (pa c) = zc c := by revert c; decide +kernel
  unfold room; rw [h]

/-! ## What a transfer writes -/

/-- What travels to the neighbour is what travels to the device. -/
theorem gold_nb {d : Bool} {c : Dev nD} (h : has d c = true) (i : S65536x1024.Idx) : gold m (nb d c) i = gold m c i := by
  unfold gold; rw [yc_nb h]

theorem gold_pa (c : Dev nD) (i : S65536x1024.Idx) : gold m (pa c) i = gold m c i := by
  unfold gold; rw [yc_pa]

/-- At the half a device sends of its own block, what travels is its own argument. -/
theorem gold_own (d : Bool) (c : Dev nD) (i : S65536x1024.Idx) (hb' : blkOf i = blk d 0 c) (hh : halfOf i = hb c) : gold m c i = own m c i := by
  unfold gold own; rw [hb', hh, devOf_self]

/-- The local copy writes the device's argument to a block. -/
theorem own_write (c : Dev nD) (b : Fin 4) (fd : Buf (Elt F) ((c : Thread nD τ).loc main_v1)) (i : S65536x1024.Idx) (hi : i ∈ (bCh b).view.set) :
    (bCh b).view.write (Elt F) fd ((aM : Memref sig .tc .hbm S16384x1024 .bf16).view.read (Elt F) (m ((c : Thread nD τ).loc main_arg0))) Finset.univ i = own m c i := by
  obtain ⟨x, -, rfl⟩ := Finset.mem_map.mp hi
  rw [View.write_emb_of_mem _ _ (Finset.mem_univ x), View.read_apply]
  show m ((c : Thread nD τ).loc main_arg0) _ = m ((c : Thread nD τ).loc main_arg0) _
  congr 1
  have h0 : ((bCh b).view.emb x 0).val = 16384 * b.val + (x 0).val := Idealize.ShloMosaic.ValueKit.view_emb_slice_whole_unit_val main_v1 _ _ _ x 0
  have h1 : ((bCh b).view.emb x 1).val = 0 + (x 1).val := Idealize.ShloMosaic.ValueKit.view_emb_slice_whole_unit_val main_v1 _ _ _ x 1
  have hx : (x 0).val < 16384 := (x 0).isLt
  refine funext (Fin.forall_fin_two.mpr ⟨Fin.ext ?_, Fin.ext ?_⟩)
  · show (x 0).val = ((bCh b).view.emb x 0).val % 16384
    rw [h0]; omega
  · show (x 1).val = ((bCh b).view.emb x 1).val
    rw [h1]; omega

/-- A transfer of a chunk of the device's argument writes the argument to a chunk. -/
theorem arg_write (c c' : Dev nD) (b : Fin 4) (h : Fin 2) (q : Fin 4) (fd : Buf (Elt F) ((c' : Thread nD τ).loc main_v1)) (i : S65536x1024.Idx)
    (hi : i ∈ (oCh b h q).view.set) :
    (oCh b h q).view.write (Elt F) fd ((aCh h q).view.read (Elt F) (m ((c : Thread nD τ).loc main_arg0))) Finset.univ i = own m c i := by
  obtain ⟨x, -, rfl⟩ := Finset.mem_map.mp hi
  rw [View.write_emb_of_mem _ _ (Finset.mem_univ x), View.read_apply]
  show m ((c : Thread nD τ).loc main_arg0) _ = m ((c : Thread nD τ).loc main_arg0) _
  congr 1
  have h0 : ((oCh b h q).view.emb x 0).val = 16384 * b.val + 8192 * h.val + 2048 * q.val + (x 0).val :=
    Idealize.ShloMosaic.ValueKit.view_emb_slice_whole_unit_val main_v1 _ _ _ x 0
  have h1 : ((oCh b h q).view.emb x 1).val = 0 + (x 1).val := Idealize.ShloMosaic.ValueKit.view_emb_slice_whole_unit_val main_v1 _ _ _ x 1
  have g0 : ((aCh h q).view.emb x 0).val = 8192 * h.val + 2048 * q.val + (x 0).val :=
    Idealize.ShloMosaic.ValueKit.view_emb_slice_whole_unit_val main_arg0 _ _ _ x 0
  have g1 : ((aCh h q).view.emb x 1).val = 0 + (x 1).val := Idealize.ShloMosaic.ValueKit.view_emb_slice_whole_unit_val main_arg0 _ _ _ x 1
  have hx : (x 0).val < 2048 := (x 0).isLt
  have := h.isLt; have := q.isLt
  refine funext (Fin.forall_fin_two.mpr ⟨Fin.ext ?_, Fin.ext ?_⟩)
  · show ((aCh h q).view.emb x 0).val = ((oCh b h q).view.emb x 0).val % 16384
    rw [h0, g0]; omega
  · show ((aCh h q).view.emb x 1).val = ((oCh b h q).view.emb x 1).val
    rw [h1, g1]

/-- A transfer between the same chunks of two results writes what it reads. -/
theorem out_write (c c' : Dev nD) (b : Fin 4) (h : Fin 2) (q : Fin 4) (fd : Buf (Elt F) ((c' : Thread nD τ).loc main_v1))
    (g : Buf (Elt F) ((c : Thread nD τ).loc main_v1)) (i : S65536x1024.Idx) (hi : i ∈ (oCh b h q).view.set) :
    (oCh b h q).view.write (Elt F) fd ((oCh b h q).view.read (Elt F) g) Finset.univ i = g i := by
  obtain ⟨x, -, rfl⟩ := Finset.mem_map.mp hi
  rw [View.write_emb_of_mem _ _ (Finset.mem_univ x), View.read_apply]
  rfl

end Cert.Gather
-- ==== Proof.Ops.lean ====
/-
# One operation at a time

What device `c` needs before one of its operations and has afterwards: the local copy, a signal, a transfer to another device, a wait.
-/
module

public import proofs.«01_k».proof.Proof.Vals

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

abbrev 𝒱₀ : Variants := Variants.none

variable (m : (ℓ : Loc nD τ sig) → Buf (Elt F) ℓ) (K : Dev nD × Kd → ℕ)

/-! ## What every device knows -/

/-- The invariants of all semaphores, and that each has reached its round. -/
def recs : sProp 𝕄 :=
  bigSep Finset.univ fun ck : Dev nD × Kd => iprop(cellInv ER (sch m) (K ck) (cell ck.1 ck.2) ∗ reached ER (cell ck.1 ck.2) 0)

/-- With the levels of all contributions. -/
def ctx : sProp 𝕄 := iprop(recs m K ∗ levAts L lv)

instance recs_persistent : BI.Persistent (recs (F := F) m K) := by unfold recs; infer_instance
instance ctx_persistent : BI.Persistent (ctx (F := F) m K) := by unfold ctx; infer_instance

theorem recs_at (c : Dev nD) (k : Kd) : recs (F := F) m K ⊢ iprop(cellInv ER (sch m) (K (c, k)) (cell c k) ∗ reached ER (cell c k) 0) := by
  unfold recs; exact bigSep_elim (Finset.mem_univ (c, k))

theorem recs_inv (c : Dev nD) (k : Kd) : recs (F := F) m K ⊢ cellInv ER (sch m) (K (c, k)) (cell c k) := by
  iintro H
  ihave H := (recs_at m K c k) $$ H
  icases H with ⟨H, -⟩
  iexact H

theorem recs_reached (c : Dev nD) (k : Kd) : recs (F := F) m K ⊢ reached ER (cell c k) 0 := by
  iintro H
  ihave H := (recs_at m K c k) $$ H
  icases H with ⟨-, H⟩
  iexact H

/-- What device `c` owes, whatever it has waited for. -/
def owesE (c : Dev nD) (O : CellTallies nD τ sig Dt) : sProp 𝕄 := iprop(∃ W, owes (c : Thread nD τ) O W)

/-- The program `p` of device `c` runs and ends with `Q`. -/
abbrev wpc (c : Dev nD) (p : Prog (TpuEff nD τ sig (Elt F) Λ₀ .tc) PUnit) (Q : PUnit → sProp (MT nD τ sig Dt (Elt F) ℕ UU ℕ)) :
    sProp (MT nD τ sig Dt (Elt F) ℕ UU ℕ) :=
  wp frame (wpE (defs₀ (F := F)) 𝒱₀ (c : Thread nD τ) none) Set.univ p Q

/-- From `P` the effect `e` of device `c`, which owes `O` before and `O'` after, makes `P'`. -/
def Eff (c : Dev nD) (e : TpuEff nD τ sig (Elt F) Λ₀ .tc PUnit) (O O' : CellTallies nD τ sig Dt) (P P' : sProp (MT nD τ sig Dt (Elt F) ℕ UU ℕ)) : Prop :=
  ∀ (k : PUnit → Prog (TpuEff nD τ sig (Elt F) Λ₀ .tc) PUnit) (Q : PUnit → sProp 𝕄),
    iprop(ctx m K ∗ P ∗ owesE c O) ⊢ iprop(((P' ∗ owesE c O') -∗ wpc c (k ⟨⟩) Q) -∗ wpc c (.op e k) Q)

/-! ## The local copy -/

theorem eff_cpy (c : Dev nD) (e : TpuEff nD τ sig (Elt F) Λ₀ .tc PUnit) (he : IsOp c .cpy e) (O : CellTallies nD τ sig Dt) (f : Buf (Elt F) ((c : Thread nD τ).loc main_v1)) :
    Eff m K c e O O (iprop(wPts m c fullShare.left ∗ bPts c (blk true 0 c) f ∗ dutyTok ER (cell c .cp) 0 (true, 0, 0)))
      (cred (tallyAt (cell c .cp) (true, 0, 0) (amt .cp))) := by
  obtain ⟨h₁, h₂, h₃, rfl⟩ := he
  intro k Q
  unfold ctx wPts bPts
  iintro ⟨⟨#HR, -⟩, ⟨Ha, Hb, Ht⟩, HO⟩ Hk
  iapply (Rounds.wp_copy_pointsTo 𝒱₀ ER (sch m) (c : Thread nD τ) none (κ := K (c, .cp)) (r := 0) (d := (true, 0, 0)) (fd := f)
    (by rw [show ((c : Thread nD τ), sem .cp) = cell c .cp from rfl, duties_eq, mem_duts]; rfl)
    (true, 0, 0) (amt .cp) rfl (by exact amount_eq m c .cp _ 0)
    (by
      rw [show ((c : Thread nD τ), sem .cp) = cell c .cp from rfl, payload_eq]
      unfold pay bPts wPts
      exact sep_mono_left (Entails.of_eq (pointsTo_congr fun i hi => own_write m c _ f i hi)))) $$ [Ha Hb Ht]
  · isplitr; · iapply (recs_inv m K c .cp); iexact HR
    isplitl [Ha]; · iexact Ha
    isplitl [Hb]; · iexact Hb
    isplitl [Ht]; · iexact Ht
    iapply (recs_reached m K c .cp); iexact HR
  iintro Hc
  iapply Hk
  isplitl [Hc] <;> iassumption

/-! ## A signal -/

theorem eff_sig (c : Dev nD) {r : Option Bool} {σ : Equiv.Perm (Dev nD)} {y : Dt} (hp : pays (.sig r) = some (σ, .bar, y)) (ha : act c (.sig r) = true)
    (e : TpuEff nD τ sig (Elt F) Λ₀ .tc PUnit) (he : IsOp c (.sig r) e) (O : CellTallies nD τ sig Dt) :
    Eff m K c e (O + term c (.sig r)) O (iprop(dutyTok ER (cell (σ c) .bar) 0 y ∗ pay m (σ c) .bar y)) iprop(emp) := by
  have hd : duty (σ c) .bar y = true := by rw [← act_pays hp c]; exact ha
  have he' : e = .semSignal (Dev.tc (σ c)) barS ((1 : ℕ) : ℤ) := by
    cases r with
    | none => cases hp; exact he
    | some d => cases hp; exact he
  have hO : term c (.sig r) = tallyAt (cell (σ c) .bar) y 1 := by unfold term; rw [hp]; dsimp only; rw [if_pos ha]; rfl
  subst he'
  intro k Q
  rw [hO]
  unfold ctx owesE
  iintro ⟨⟨#HR, -⟩, ⟨Ht, Hp⟩, ⟨%W, HO⟩⟩ Hk
  iapply (Rounds.wp_signal 𝒱₀ ER (sch m) (c : Thread nD τ) none (dst := (Dev.tc (σ c) : Thread nD τ)) (κ := K (σ c, .bar)) (r := 0)
      (d := y) (by rw [show ((σ c : Thread nD τ), SemLoc.reg barS) = cell (σ c) .bar from rfl, duties_eq, mem_duts]; exact hd)
      (by exact amount_eq m (σ c) .bar y 0) y O rfl (W := W)) $$ [Ht Hp HO]
  · isplitr; · iapply (recs_inv m K (σ c) .bar); iexact HR
    isplitl [HO]; · iexact HO
    isplitl [Ht]; · iexact Ht
    isplitl [Hp]
    · rw [show ((σ c : Thread nD τ), SemLoc.reg barS) = cell (σ c) .bar from rfl, payload_eq]; iexact Hp
    iapply (recs_reached m K (σ c) .bar); iexact HR
  iintro HO
  iapply Hk
  isplitr; · iempintro
  iexists W; iexact HO

/-! ## A transfer to another device -/

/-- A transfer of a chunk from `src` to the same or another chunk of the result of device `c'`. -/
theorem eff_remote (c c' : Dev nD) (e : TpuEff nD τ sig (Elt F) Λ₀ .tc PUnit) {src : Memref sig .tc .hbm S2048x1024 .bf16} {b : Fin 4} {h : Fin 2} {q : Fin 4}
    {kS kR : Kd} {y : Dt}
    (he : ∃ hs h₁ h₂ h₃, e = .enqueueDma src (.remote (Dev.tc c') (oCh b h q) (sem kS) hs) (sem kR) h₁ h₂ h₃)
    (hS : duty c kS y = true) (hR : duty c' kR y = true) (hN : (oCh b h q).view.amount (sem kR) = amt kR) (hA : amt kS = amt kR)
    {π : PosShare TreeShare} {fs : Buf (Elt F) (src.view.loc (c : Thread nD τ))}
    (hpS : (src.view.loc (c : Thread nD τ) ↦[src.view.set]{π} fs : sProp 𝕄) ⊢ pay m c kS y)
    (hpR : ∀ fd : Buf (Elt F) ((c' : Thread nD τ).loc main_v1),
      oPts (F := F) c' b h q fullShare ((oCh b h q).view.write (Elt F) fd (src.view.read (Elt F) fs) Finset.univ) ⊢ pay m c' kR y)
    (O : CellTallies nD τ sig Dt) :
    Eff m K c e (O + tallyAt (cell c' kR) y (amt kR)) O
      (iprop((src.view.loc (c : Thread nD τ) ↦[src.view.set]{π} fs) ∗ oAny c' b h q ∗ dutyTok ER (cell c kS) 0 y ∗ dutyTok ER (cell c' kR) 0 y))
      (cred (tallyAt (cell c kS) y (amt kS))) := by
  obtain ⟨hs, h₁, h₂, h₃, rfl⟩ := he
  intro k Q
  rw [hA]
  unfold ctx owesE oAny oPts
  iintro ⟨⟨#HR, -⟩, ⟨Hs, ⟨%fd, Hd⟩, HtS, HtR⟩, ⟨%W, HO⟩⟩ Hk
  iapply (Rounds.wp_send_pointsTo 𝒱₀ ER (sch m) (c : Thread nD τ) none (c' := (Dev.tc c' : Thread nD τ)) (κ₁ := K (c, kS)) (κ₂ := K (c', kR))
    (r₁ := 0) (r₂ := 0) (d₁ := y) (d₂ := y) (fd := fd)
    (by rw [show ((c : Thread nD τ), sem kS) = cell c kS from rfl, duties_eq, mem_duts]; exact hS)
    (by rw [show ((c' : Thread nD τ), sem kR) = cell c' kR from rfl, duties_eq, mem_duts]; exact hR)
    y y (amt kR) hN (by rw [← hA]; exact amount_eq m c kS y 0) (by exact amount_eq m c' kR y 0) O rfl (W := W)
    (by rw [show ((c : Thread nD τ), sem kS) = cell c kS from rfl, payload_eq]; exact hpS)
    (by rw [show ((c' : Thread nD τ), sem kR) = cell c' kR from rfl, payload_eq]; exact hpR fd)) $$ [Hs Hd HO HtS HtR]
  · isplitr; · iapply (recs_inv m K c kS); iexact HR
    isplitr; · iapply (recs_inv m K c' kR); iexact HR
    isplitl [Hs]; · iexact Hs
    isplitl [Hd]; · iexact Hd
    isplitl [HO]; · iexact HO
    isplitl [HtS]; · iexact HtS
    isplitr; · iapply (recs_reached m K c kS); iexact HR
    isplitl [HtR]; · iexact HtR
    iapply (recs_reached m K c' kR); iexact HR
  iintro ⟨Hc, HO⟩
  iapply Hk
  isplitl [Hc]; · iexact Hc
  iexists W; iexact HO

/-- A send along the line. -/
theorem eff_snd (c : Dev nD) (d : Bool) (t : Fin 3) (q : Fin 4) (ha : act c (.snd d t q) = true) (e : TpuEff nD τ sig (Elt F) Λ₀ .tc PUnit)
    (he : IsOp c (.snd d t q) e) (O : CellTallies nD τ sig Dt) :
    Eff m K c e (O + term c (.snd d t q)) O
      (iprop(srcPts m c (d, t, q) ∗ oAny (nb d c) (blk d t.val c) (hb c) q ∗ dutyTok ER (cell c (.sd d)) 0 (d, t, q) ∗ dutyTok ER (cell (nb d c) (.rc d t q)) 0 (d, t, q)))
      (cred (tallyAt (cell c (.sd d)) (d, t, q) (amt (.sd d)))) := by
  have hh : has d c = true := by unfold act at ha; exact (Bool.and_eq_true_iff.mp ha).1
  have hS : duty c (.sd d) (d, t, q) = true := by rw [← act_self (o := .snd d t q) rfl c]; exact ha
  have hR : duty (nb d c) (.rc d t q) (d, t, q) = true := by rw [← act_pays (o := .snd d t q) rfl c]; exact ha
  have hO : term c (.snd d t q) = tallyAt (cell (nb d c) (.rc d t q)) (d, t, q) (amt (.rc d t q)) := by
    unfold term; dsimp only [pays]; rw [if_pos ha]
  rw [hO]
  have hN : (oCh (blk d t.val c) (hb c) q).view.amount (sem (.rc d t q)) = amt (.rc d t q) := by cases d <;> rfl
  have hA : amt (.sd d) = amt (.rc d t q) := by cases d <;> rfl
  have hout (fd g : Buf (Elt F) ((nb d c : Thread nD τ).loc main_v1)) (hg : ∀ i ∈ (oCh (blk d t.val c) (hb c) q).view.set, g i = gold m c i) :
      oPts (F := F) (nb d c) (blk d t.val c) (hb c) q fullShare g ⊢ pay m (nb d c) (.rc d t q) (d, t, q) := by
    unfold pay; dsimp only
    rw [blk_nb hh, hb_nb hh]
    unfold oPts
    exact Entails.of_eq (pointsTo_congr fun i hi => (hg i hi).trans (gold_nb m hh i).symm)
  have he' : ∃ hs h₁ h₂ h₃, e = .enqueueDma (sndSrc c d t q)
      (.remote (Dev.tc (nb d c)) (oCh (blk d t c) (hb c) q) (sem (.sd d)) hs) (sem (.rc d t q)) h₁ h₂ h₃ := he
  by_cases h0 : t = 0
  · subst h0
    have hs : sndSrc c d 0 q = aCh (hb c) q := if_pos rfl
    rw [hs] at he'
    have hP : srcPts m c (d, 0, q) = aPts m c (hb c) q (shA d) := if_pos rfl
    rw [hP]; unfold aPts
    refine eff_remote m K c (nb d c) e he' hS hR hN hA ?_ ?_ O
    · show _ ⊢ srcPts m c (d, 0, q); rw [hP]; unfold aPts; exact Entails.refl _
    · exact fun fd => hout fd _ fun i hi => (arg_write m c (nb d c) _ _ _ fd i hi).trans (gold_own m d c i (blkOf_oCh hi) (halfOf_oCh hi)).symm
  · have hs : sndSrc c d t q = oCh (blk d t c) (hb c) q := if_neg h0
    rw [hs] at he'
    have hP : srcPts m c (d, t, q) = oPts c (blk d t.val c) (hb c) q fullShare.left (gold m c) := if_neg h0
    rw [hP]; unfold oPts
    refine eff_remote m K c (nb d c) e he' hS hR hN hA ?_ ?_ O
    · show _ ⊢ srcPts m c (d, t, q); rw [hP]; unfold oPts; exact Entails.refl _
    · exact fun fd => hout fd _ fun i hi => out_write c (nb d c) _ _ _ fd _ i hi

/-- A hand-over to the other plane. -/
theorem eff_par (c : Dev nD) (d : Bool) (s : Fin 3) (q : Fin 4) (ha : act c (.par d s q) = true) (e : TpuEff nD τ sig (Elt F) Λ₀ .tc PUnit)
    (he : IsOp c (.par d s q) e) (O : CellTallies nD τ sig Dt) :
    Eff m K c e (O + term c (.par d s q)) O
      (iprop(pay m c .xs (d, s, q) ∗ oAny (pa c) (blk d (s.val + 1) c) (hb c) q ∗ dutyTok ER (cell c .xs) 0 (d, s, q) ∗ dutyTok ER (cell (pa c) .xr) 0 (d, s, q)))
      (cred (tallyAt (cell c .xs) (d, s, q) (amt .xs))) := by
  have hS : duty c .xs (d, s, q) = true := by rw [← act_self (o := .par d s q) rfl c]; exact ha
  have hR : duty (pa c) .xr (d, s, q) = true := by rw [← act_pays (o := .par d s q) rfl c]; exact ha
  have hO : term c (.par d s q) = tallyAt (cell (pa c) .xr) (d, s, q) (amt .xr) := by
    unfold term; dsimp only [pays]; rw [if_pos ha]
  rw [hO]
  have hP : pay m c .xs (d, s, q) = oPts c (blk d (s.val + 1) c) (hb c) q fullShare.right (gold m c) := rfl
  rw [hP]; unfold oPts
  refine eff_remote m K c (pa c) e he hS hR rfl rfl ?_ ?_ O
  · rw [hP]; unfold oPts; exact Entails.refl _
  · intro fd
    unfold pay; dsimp only
    rw [blk_pa, ob_pa]
    unfold oPts
    exact Entails.of_eq (pointsTo_congr fun i hi => (out_write c (pa c) _ _ _ fd _ i hi).trans (gold_pa m c i).symm)

/-! ## A wait -/

/-- A product over a set, taken apart at a subset. -/
theorem bigSep_sub {I : Type} [DecidableEq I] {S T : Finset I} (h : T ⊆ S) (Φ : I → sProp 𝕄) : bigSep S Φ = iprop(bigSep T Φ ∗ bigSep (S \ T) Φ) :=
  bigSep_sdiff_split h

/-- Device `c` has yet to wait `n` times on its semaphore `k`; after the last wait all that the contributions hand over is there. -/
def Held (c : Dev nD) (k : Kd) : ℕ → sProp (MT nD τ sig Dt (Elt F) ℕ UU ℕ)
  | 0 => iprop((∃ R, ⌜∀ r, R ≤ r → (sch (F := F) m).duties (cell c k) r = ∅⌝ ∗ atPos ER (cell c k) R ∅ 0) ∗ bigSep (duts c k) (pay m c k))
  | n + 1 => iprop(∃ T p, ⌜T ⊆ duts c k ∧ p + amt k * (n + 1) = (duts c k).card * amt k⌝ ∗ atPos ER (cell c k) 0 T p ∗ bigSep T (pay m c k))

theorem held_init (c : Dev nD) (k : Kd) : atPos ER (cell c k) 0 ∅ 0 ⊢ Held (F := F) m c k (duts c k).card := by
  rcases hn : (duts c k).card with _ | n
  · have he : duts c k = ∅ := Finset.card_eq_zero.mp hn
    unfold Held
    rw [he, bigSep_empty]
    iintro H
    isplitl
    · iexists 0
      isplitr
      · ipureintro
        intro r hr
        rcases Nat.eq_zero_or_pos r with rfl | h
        · rw [duties_eq, he]
        · exact duties_later m c k r h
      iexact H
    iempintro
  · unfold Held
    iintro H
    iexists ∅; iexists 0
    isplitr
    · ipureintro; exact ⟨Finset.empty_subset _, by rw [hn, Nat.zero_add, Nat.mul_comm]⟩
    isplitl; · iexact H
    rw [bigSep_empty]; iempintro

/-- The effects that wait: for the amount of one contribution. -/
theorem wait_eq {c : Dev nD} {k : Kd} {y : Dt} {e : TpuEff nD τ sig (Elt F) Λ₀ .tc PUnit} (he : IsOp c (.wait k y) e) :
    ∀ P : PUnit → sProp 𝕄, wpE (defs₀ (F := F)) 𝒱₀ (c : Thread nD τ) none Set.univ e P = waitSpec (c : Thread nD τ) Set.univ (sem k) (amt k) P := by
  by_cases hk : k = .bar
  · subst hk
    have he' : e = .semWait barS ((1 : ℕ) : ℤ) := he
    subst he'
    exact wpE_semWait_eq 𝒱₀ (c : Thread nD τ) none Set.univ
  · have he' : ∃ (i : DmaSem sig) (s : Shape) (src dst : Memref sig .tc .hbm s .bf16) (h₁ : _) (h₂ : _),
        e = .waitDma2 i src dst h₁ h₂ ∧ sem k = .dma i ∧ dst.view.dmaCredit = amt k := by
      cases k with
      | bar => exact absurd rfl hk
      | _ => exact he
    obtain ⟨i, s, src, dst, h₁, h₂, rfl, hs, hn⟩ := he'
    rw [hs, ← hn]
    exact wpE_waitDma2_eq 𝒱₀ (c : Thread nD τ) none Set.univ

theorem rest_eq (c : Dev nD) (k : Kd) (T : Finset Dt) :
    bigSep ((sch (F := F) m).duties (cell c k) 0 \ T) (fun y => (sch (F := F) m).payload (cell c k) 0 y) = bigSep (duts c k \ T) (pay m c k) := by
  rw [duties_eq]; exact payloads_eq m c k _ 0

theorem eff_wait (c : Dev nD) (k : Kd) (y : Dt) (e : TpuEff nD τ sig (Elt F) Λ₀ .tc PUnit) (he : IsOp c (.wait k y) e) (n : ℕ)
    {ops : List Op} (hd : duty c k y = true) (ho : ok c (.wait k y :: ops) = true) :
    Eff m K c e (owed c ops) (owed c ops) (iprop(Held m c k (n + 1) ∗ cred (tallyAt (cell c k) y (amt k)))) (Held m c k n) := by
  intro kk Q
  unfold ctx owesE
  rw [show Held (F := F) m c k (n + 1) = iprop(∃ T p, ⌜T ⊆ duts c k ∧ p + amt k * (n + 1) = (duts c k).card * amt k⌝ ∗ atPos ER (cell c k) 0 T p ∗ bigSep T (pay m c k)) from rfl]
  iintro ⟨⟨#HR, #HL⟩, ⟨⟨%T, %p, %hT, Hat, Hp⟩, Hc⟩, ⟨%W, HO⟩⟩ Hk
  obtain ⟨hT, hp⟩ := hT
  rcases n with _ | n
  · iapply (Rounds.wp_wait_rest_token 𝒱₀ ER (sch m) (c : Thread nD τ) none (κ := K (c, k)) (wait_eq he) (Set.mem_univ _) y (O := owed c ops) (W := W) (R := 0) (m := p) (T := T)
      (by rw [show ((c : Thread nD τ), sem k) = cell c k from rfl, expect_eq]; omega)) $$ [Hat Hc HO]
    · isplitr; · iapply (recs_inv m K c k); iexact HR
      isplitl [Hc]; · iexact Hc
      isplitl [HO]; · iexact HO
      isplitr; · iapply (mayWait ho hd); iexact HL
      iexact Hat
    iintro ⟨HO, Hat, -, Hn⟩
    iapply Hk
    isplitl [Hat Hn Hp]
    · unfold Held
      isplitl [Hat]
      · iexists (0 + 1)
        isplitr; · ipureintro; exact fun r hr => duties_later m c k r hr
        iexact Hat
      ihave Hn := (Entails.of_eq (rest_eq m c k T)) $$ Hn
      rw [bigSep_sub hT]
      isplitl [Hp] <;> iassumption
    · iexists _; iexact HO
  · iapply (Rounds.wp_wait 𝒱₀ ER (sch m) (c : Thread nD τ) none (κ := K (c, k)) (wait_eq he) (Set.mem_univ _) (O := owed c ops) (W := W) (R := 0) (m := p) (T := T)
      {(sem k, y)} (cr := Finsupp.single y (amt k)) (by rw [Util.total_single]) (image_single_subset (sem k) y (amt k))) $$ [Hat Hc HO]
    · isplitr; · iapply (recs_inv m K c k); iexact HR
      isplitl [Hc]; · iexact Hc
      isplitl [HO]; · iexact HO
      isplitr; · iapply (mayWait ho hd); iexact HL
      iexact Hat
    iintro %S ⟨%hS, HO, Hat, Hn⟩
    iapply Hk
    isplitl [Hat Hn Hp]
    · unfold Held
      iexists S; iexists (p + amt k)
      isplitr
      · ipureintro
        refine ⟨?_, ?_⟩
        · have := hS.2.1; rw [show ((c : Thread nD τ), sem k) = cell c k from rfl, duties_eq] at this; exact this
        · rw [← hp, Nat.mul_succ (amt k) (n + 1)]; omega
      isplitl [Hat]; · iexact Hat
      ihave Hn := (Entails.of_eq (payloads_eq m c k (S \ T) 0)) $$ Hn
      rw [bigSep_sub hS.1]
      isplitl [Hp] <;> iassumption
    · iexists _; iexact HO

end Cert.Gather
-- ==== Proof.Plan.lean ====
/-
# Lists of operations

What device `c` needs before a list of its operations and has afterwards. Where an operation is not performed nothing is needed for it.
-/
module

public import proofs.«01_k».proof.Proof.Ops
public import Idealize.ShloMosaic.Lib.Pipeline.BigSepL

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

/-! ## Conditions -/

theorem gate_mono (b : Bool) {P P' : sProp 𝕄} (h : b = true → P ⊢ P') : gate b P ⊢ gate b P' := by
  cases b with
  | true => exact h rfl
  | false => exact Entails.refl _

theorem gate_sep (b : Bool) (P P' : sProp 𝕄) : gate b (iprop(P ∗ P')) ⊢ iprop(gate b P ∗ gate b P') := by
  cases b with
  | true => exact Entails.refl _
  | false => iintro -; isplitr <;> iempintro

theorem gate_sep' (b : Bool) (P P' : sProp 𝕄) : iprop(gate b P ∗ gate b P') ⊢ gate b (iprop(P ∗ P')) := by
  cases b with
  | true => exact Entails.refl _
  | false => iintro -; iempintro

theorem gate_cut (b : Bool) (P : sProp 𝕄) : P ⊢ iprop(gate b P ∗ gate (!b) P) := by
  cases b with
  | true =>
    show P ⊢ iprop(P ∗ emp)
    iintro H
    isplitl; · iexact H
    iempintro
  | false =>
    show P ⊢ iprop(emp ∗ P)
    iintro H
    isplitr; · iempintro
    iexact H

theorem gate_join (b : Bool) (P : sProp 𝕄) : iprop(gate b P ∗ gate (!b) P) ⊢ P := by
  cases b with
  | true => show iprop(P ∗ emp) ⊢ P; iintro ⟨H, -⟩; iexact H
  | false => show iprop(emp ∗ P) ⊢ P; iintro ⟨-, H⟩; iexact H

theorem gate_intro (b : Bool) (P : sProp 𝕄) : P ⊢ gate b P := by
  cases b with
  | true => exact Entails.refl _
  | false => iintro -; iempintro

theorem gate_and (a b : Bool) (P : sProp 𝕄) : gate (a && b) P = gate a (gate b P) := by
  cases a <;> rfl

/-! ## Products over lists -/

section Lists
variable {I J : Type}

theorem bigSepL_perm {l l' : List I} (h : l.Perm l') (Φ : I → sProp 𝕄) : bigSepL l Φ ⊢ bigSepL l' Φ := by
  induction h with
  | nil => exact Entails.refl _
  | cons x _ ih =>
    rw [bigSepL_cons', bigSepL_cons']
    iintro ⟨H, HR⟩
    isplitl [H]; · iexact H
    iapply ih; iexact HR
  | swap x y l =>
    rw [bigSepL_cons', bigSepL_cons', bigSepL_cons', bigSepL_cons']
    iintro ⟨H, H', HR⟩
    isplitl [H']; · iexact H'
    isplitl [H] <;> iassumption
  | trans _ _ ih ih' => exact ih.trans ih'

theorem bigSepL_flatMap (f : I → List J) (l : List I) (Φ : J → sProp 𝕄) : bigSepL (l.flatMap f) Φ = bigSepL l fun x => bigSepL (f x) Φ := by
  induction l with
  | nil => rfl
  | cons x l ih => rw [List.flatMap_cons, bigSepL_append, bigSepL_cons', ih]

theorem bigSepL_sep (l : List I) (Φ Ψ : I → sProp 𝕄) : bigSepL l (fun x => iprop(Φ x ∗ Ψ x)) ⊢ iprop(bigSepL l Φ ∗ bigSepL l Ψ) := by
  induction l with
  | nil => iintro -; isplitr <;> iempintro
  | cons x l ih =>
    rw [bigSepL_cons', bigSepL_cons', bigSepL_cons']
    iintro ⟨⟨H, H'⟩, HR⟩
    ihave HR := ih $$ HR
    icases HR with ⟨HA, HB⟩
    isplitl [H HA]
    · isplitl [H] <;> iassumption
    isplitl [H'] <;> iassumption

theorem bigSepL_sep' (l : List I) (Φ Ψ : I → sProp 𝕄) : iprop(bigSepL l Φ ∗ bigSepL l Ψ) ⊢ bigSepL l (fun x => iprop(Φ x ∗ Ψ x)) := by
  induction l with
  | nil => iintro -; iempintro
  | cons x l ih =>
    rw [bigSepL_cons', bigSepL_cons', bigSepL_cons']
    iintro ⟨⟨H, HA⟩, ⟨H', HB⟩⟩
    isplitl [H H']
    · isplitl [H] <;> iassumption
    iapply ih
    isplitl [HA] <;> iassumption

/-- The contributions' names, in the order of the program. -/
theorem bigSep_steps (Φ : Dt → sProp 𝕄) : bigSep Finset.univ Φ = bigSepL steps Φ :=
  bigSep_univ_eq_bigSepL steps (by decide +kernel) (by decide +kernel) Φ

end Lists

/-! ## Running a list of operations -/

variable (m : (ℓ : Loc nD τ sig) → Buf (Elt F) ℓ) (K : Dev nD × Kd → ℕ)

/-- From `P` the operations `ops` of device `c`, which owes `rest` afterwards, make `P'`. -/
def Does (c : Dev nD) (ops rest : List Op) (P P' : sProp (MT nD τ sig Dt (Elt F) ℕ UU ℕ)) : Prop :=
  ok c (ops ++ rest) = true → ∀ p p' : Prog (TpuEff nD τ sig (Elt F) Λ₀ .tc) PUnit, Runs c ops p p' → ∀ Q : PUnit → sProp 𝕄,
    iprop(ctx m K ∗ P ∗ owesE c (owed c (ops ++ rest))) ⊢ iprop(((P' ∗ owesE c (owed c rest)) -∗ wpc c p' Q) -∗ wpc c p Q)

variable {m K} {c : Dev nD}

theorem runs_nil {p p' : Prog (TpuEff nD τ sig (Elt F) Λ₀ .tc) PUnit} (h : Runs c [] p p') (Q : PUnit → sProp 𝕄) : wpc c p' Q ⊢ wpc c p Q := by
  generalize hl : ([] : List Op) = l at h
  induction h with
  | nil => exact Entails.refl _
  | dev _ ih => unfold wpc; rw [wp_deviceId]; exact ih hl
  | skip => cases hl
  | step => cases hl

theorem does_nil (rest : List Op) (P : sProp 𝕄) : Does m K c [] rest P P := by
  intro _ p p' h Q
  iintro ⟨-, HP, HO⟩ Hk
  iapply (runs_nil h Q)
  iapply Hk
  isplitl [HP]; · iexact HP
  iexact HO

theorem does_op {o : Op} {rest : List Op} {P P' : sProp 𝕄}
    (h : act c o = true → ok c (o :: rest) = true → ∀ e, IsOp c o e → Eff m K c e (owed c rest + term c o) (owed c rest) P P')
    (h' : act c o = false → P ⊢ P') : Does m K c [o] rest P P' := by
  intro hok p p' hr Q
  have hO : owed c ([o] ++ rest) = owed c rest + term c o := owed_cons c o rest
  rw [hO]
  generalize hl : [o] = l at hr
  induction hr with
  | nil => cases hl
  | dev _ ih => unfold wpc; rw [wp_deviceId]; exact ih hl
  | skip ha hr ih =>
    obtain ⟨rfl, rfl⟩ := List.cons.inj hl
    have h0 : term c o = 0 := by
      unfold term
      split
      · rw [if_neg (by rw [ha]; exact Bool.false_ne_true)]
      · rfl
    rw [h0, add_zero]
    iintro ⟨-, HP, HO⟩ Hk
    iapply (runs_nil hr Q)
    iapply Hk
    isplitl [HP]; · iapply (h' ha); iexact HP
    iexact HO
  | @step _ _ _ e k ha he hr ih =>
    obtain ⟨rfl, rfl⟩ := List.cons.inj hl
    refine (h ha hok e he k Q).trans ?_
    iintro H Hk
    iapply H
    iintro HP
    iapply (runs_nil hr Q)
    iapply Hk
    iexact HP

theorem Does.seq {ops ops' rest : List Op} {P P' P'' : sProp 𝕄} (h : Does m K c ops (ops' ++ rest) P P') (h' : Does m K c ops' rest P' P'') :
    Does m K c (ops ++ ops') rest P P'' := by
  intro hok p p'' hr Q
  rw [List.append_assoc] at hok ⊢
  obtain ⟨p', hr₁, hr₂⟩ := hr.split
  have h₁ := h hok p p' hr₁ Q
  have h₂ := h' (ok_append hok) p' p'' hr₂ Q
  iintro ⟨#HC, HP, HO⟩ Hk
  iapply h₁ $$ [HP HO]
  · isplitr; · iexact HC
    isplitl [HP] <;> iassumption
  iintro ⟨HP, HO⟩
  iapply h₂ $$ [HP HO]
  · isplitr; · iexact HC
    isplitl [HP] <;> iassumption
  iexact Hk

theorem Does.cons {o : Op} {ops rest : List Op} {P P' P'' : sProp 𝕄} (h : Does m K c [o] (ops ++ rest) P P') (h' : Does m K c ops rest P' P'') :
    Does m K c (o :: ops) rest P P'' := h.seq h'

theorem Does.pre {ops rest : List Op} {P P₀ P' : sProp 𝕄} (hP : P ⊢ P₀) (h : Does m K c ops rest P₀ P') : Does m K c ops rest P P' := by
  intro hok p p' hr Q
  have h := h hok p p' hr Q
  refine BIBase.Entails.trans ?_ h
  iintro ⟨HC, HP, HO⟩
  isplitl [HC]; · iexact HC
  isplitl [HP]; · iapply hP; iexact HP
  iexact HO

theorem Does.post {ops rest : List Op} {P P₀ P' : sProp 𝕄} (h : Does m K c ops rest P P₀) (hP : P₀ ⊢ P') : Does m K c ops rest P P' := by
  intro hok p p' hr Q
  refine (h hok p p' hr Q).trans ?_
  iintro H Hk
  iapply H
  iintro ⟨HP, HO⟩
  iapply Hk
  isplitl [HP]; · iapply hP; iexact HP
  iexact HO

theorem Does.frame {ops rest : List Op} {P P' : sProp 𝕄} (h : Does m K c ops rest P P') (R : sProp 𝕄) :
    Does m K c ops rest (iprop(P ∗ R)) (iprop(P' ∗ R)) := by
  intro hok p p' hr Q
  have h := h hok p p' hr Q
  iintro ⟨HC, ⟨HP, HR⟩, HO⟩ Hk
  iapply h $$ [HC HP HO]
  · isplitl [HC]; · iexact HC
    isplitl [HP] <;> iassumption
  iintro ⟨HP, HO⟩
  iapply Hk
  isplitr [HO]
  · isplitl [HP] <;> iassumption
  iexact HO

/-- The same for a list of lists of operations. -/
theorem does_list {I : Type} {f : I → List Op} {A B : I → sProp 𝕄} (h : ∀ x rest, Does m K c (f x) rest (A x) (B x)) (l : List I) (rest : List Op) :
    Does m K c (l.flatMap f) rest (bigSepL l A) (bigSepL l B) := by
  induction l with
  | nil => exact does_nil rest _
  | cons x l ih =>
    rw [List.flatMap_cons, bigSepL_cons', bigSepL_cons']
    refine ((h x _).frame _).seq (Does.pre ?_ ((ih.frame (B x)).post ?_))
    · iintro ⟨H, H'⟩; isplitl [H'] <;> iassumption
    · iintro ⟨H, H'⟩; isplitl [H'] <;> iassumption

/-! ## The operations -/

/-- The credit of a contribution. -/
def crd (c : Dev nD) (k : Kd) (y : Dt) : sProp (MT nD τ sig Dt (Elt F) ℕ UU ℕ) := cred (tallyAt (cell c k) y (amt k))

/-- The token of a contribution. -/
def tok (c : Dev nD) (k : Kd) (y : Dt) : sProp (MT nD τ sig Dt (Elt F) ℕ UU ℕ) := dutyTok ER (cell c k) 0 y

theorem does_cpy (rest : List Op) :
    Does m K c [.cpy] rest (iprop(wPts m c fullShare.left ∗ (∃ f, bPts c (blk true 0 c) f) ∗ tok c .cp (true, 0, 0))) (crd c .cp (true, 0, 0)) := by
  refine does_op (fun ha _ e he => ?_) (fun ha => by cases ha)
  have h0 : term c .cpy = 0 := rfl
  rw [h0, add_zero]
  intro k Q
  iintro ⟨HC, ⟨Ha, ⟨%f, Hb⟩, Ht⟩, HO⟩
  iapply (eff_cpy m K c e he (owed c rest) f k Q)
  unfold tok
  isplitl [HC]; · iexact HC
  isplitr [HO]
  · isplitl [Ha]; · iexact Ha
    isplitl [Hb] <;> iassumption
  iexact HO

theorem does_sig {r : Option Bool} {σ : Equiv.Perm (Dev nD)} {y : Dt} (hp : pays (.sig r) = some (σ, .bar, y)) (rest : List Op) :
    Does m K c [.sig r] rest (gate (act c (.sig r)) (iprop(tok (σ c) .bar y ∗ pay m (σ c) .bar y))) iprop(emp) := by
  refine does_op (fun ha _ e he => ?_) (fun ha => by rw [ha]; exact Entails.refl _)
  rw [ha]
  exact eff_sig m K c hp ha e he (owed c rest)

/-- What a send needs beside what it reads: where to write, and the tokens of the two semaphores it raises. -/
def sndNeed (c : Dev nD) (y : Dt) : sProp (MT nD τ sig Dt (Elt F) ℕ UU ℕ) :=
  iprop(oAny (nb y.1 c) (blk y.1 y.2.1.val c) (hb c) y.2.2 ∗ tok c (.sd y.1) y ∗ tok (nb y.1 c) (.rc y.1 y.2.1 y.2.2) y)

/-- The same for a hand-over to the other plane. -/
def parNeed (c : Dev nD) (y : Dt) : sProp (MT nD τ sig Dt (Elt F) ℕ UU ℕ) :=
  iprop(oAny (pa c) (blk y.1 (y.2.1.val + 1) c) (hb c) y.2.2 ∗ tok c .xs y ∗ tok (pa c) .xr y)

/-- Whether device `c` sends the chunk `y`. -/
abbrev sends (c : Dev nD) (y : Dt) : Bool := act c (.snd y.1 y.2.1 y.2.2)
/-- Whether the chunk `y` arrives at device `c`, which is then handed over. -/
abbrev gets (c : Dev nD) (y : Dt) : Bool := decide (y.2.1.val < room y.1 c)

theorem does_snd (y : Dt) (rest : List Op) :
    Does m K c [.snd y.1 y.2.1 y.2.2] rest (gate (sends c y) (iprop(srcPts m c y ∗ sndNeed c y))) (gate (sends c y) (crd c (.sd y.1) y)) := by
  obtain ⟨d, t, q⟩ := y
  unfold sends
  refine does_op (fun ha _ e he => ?_) (fun ha => by rw [ha]; exact Entails.refl _)
  dsimp only at ha he ⊢
  rw [ha]
  exact eff_snd m K c d t q ha e he (owed c rest)

theorem does_par (y : Dt) (rest : List Op) :
    Does m K c [.par y.1 y.2.1 y.2.2] rest (gate (gets c y) (iprop(pay m c .xs y ∗ parNeed c y))) (gate (gets c y) (crd c .xs y)) := by
  obtain ⟨d, s, q⟩ := y
  refine does_op (fun ha _ e he => ?_) (fun ha => by rw [show gets c (d, s, q) = false from ha]; exact Entails.refl _)
  rw [show gets c (d, s, q) = true from ha]
  exact eff_par m K c d s q ha e he (owed c rest)

theorem does_wait (k : Kd) (y : Dt) (n : ℕ) (rest : List Op) :
    Does m K c [.wait k y] rest (iprop(Held m c k (n + (duty c k y).toNat) ∗ gate (duty c k y) (crd c k y))) (Held m c k n) := by
  refine does_op (fun ha ho e he => ?_) (fun ha => by
    rw [show duty c k y = false from ha]; iintro ⟨H, -⟩; iexact H)
  have hd : duty c k y = true := ha
  have h0 : term c (.wait k y) = 0 := rfl
  rw [h0, add_zero, hd]
  exact eff_wait m K c k y e he n hd ho

end Cert.Gather
-- ==== Proof.Phases.lean ====
/-
# The phases of the program

The four phases of one device: the local copy and the entry barrier, the sends of the own block, the travel of the blocks, the waits at
the end. Each is stated with what it needs and what it leaves.
-/
module

public import proofs.«01_k».proof.Proof.Plan

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable {m : (ℓ : Loc nD τ sig) → Buf (Elt F) ℓ} {K : Dev nD × Kd → ℕ} {c : Dev nD}

/-! ## Threading one resource -/

/-- Two lists of operations that both use `T`, and each something of its own. -/
theorem Does.thread {ops ops' rest : List Op} {T T' T'' A A' B B' : sProp 𝕄} (h : Does m K c ops (ops' ++ rest) (iprop(T ∗ A)) (iprop(T' ∗ B)))
    (h' : Does m K c ops' rest (iprop(T' ∗ A')) (iprop(T'' ∗ B'))) :
    Does m K c (ops ++ ops') rest (iprop(T ∗ A ∗ A')) (iprop(T'' ∗ B ∗ B')) := by
  refine Does.pre ?_ ((h.frame A').seq (Does.pre ?_ ((h'.frame B).post ?_)))
  · iintro ⟨H, H', H''⟩
    isplitr [H'']
    · isplitl [H] <;> iassumption
    iexact H''
  · iintro ⟨⟨H, H'⟩, H''⟩
    isplitr [H']
    · isplitl [H] <;> iassumption
    iexact H'
  · iintro ⟨⟨H, H'⟩, H''⟩
    isplitl [H]; · iexact H
    isplitl [H''] <;> iassumption

/-- Operations that do not use `T`. -/
theorem Does.beside {ops rest : List Op} {A B : sProp 𝕄} (h : Does m K c ops rest A B) (T : sProp 𝕄) : Does m K c ops rest (iprop(T ∗ A)) (iprop(T ∗ B)) := by
  refine Does.pre ?_ ((h.frame T).post ?_)
  · iintro ⟨H, H'⟩; isplitl [H'] <;> iassumption
  · iintro ⟨H, H'⟩; isplitl [H'] <;> iassumption

/-- A wait as an operation that uses what is held of its semaphore. -/
theorem does_wait' (k : Kd) (y : Dt) (n : ℕ) (rest : List Op) :
    Does m K c [.wait k y] rest (iprop(Held m c k (n + (duty c k y).toNat) ∗ gate (duty c k y) (crd c k y))) (iprop(Held m c k n ∗ emp)) :=
  (does_wait k y n rest).post (by iintro H; isplitl; · iexact H
                                  iempintro)

/-! ## The local copy and the barrier -/

/-- What the signals of device `c` hand over, with their tokens. -/
def sigNeed (m : (ℓ : Loc nD τ sig) → Buf (Elt F) ℓ) (c : Dev nD) (r : Option Bool) (c' : Dev nD) (y : Dt) : sProp (MT nD τ sig Dt (Elt F) ℕ UU ℕ) :=
  gate (act c (.sig r)) (iprop(tok c' .bar y ∗ pay m c' .bar y))

theorem does_A (rest : List Op) :
    Does m K c opsA rest
      (iprop(Held m c .bar (duts c .bar).card
        ∗ (wPts m c fullShare.left ∗ (∃ f, bPts c (blk true 0 c) f) ∗ tok c .cp (true, 0, 0))
        ∗ sigNeed m c (some false) (nb false c) (true, 0, 0)
        ∗ gate (duty c .bar (false, 0, 0)) (crd c .bar (false, 0, 0))
        ∗ sigNeed m c (some true) (nb true c) (false, 0, 0)
        ∗ gate (duty c .bar (true, 0, 0)) (crd c .bar (true, 0, 0))
        ∗ sigNeed m c none (pa c) (true, 1, 0)
        ∗ gate (duty c .bar (true, 1, 0)) (crd c .bar (true, 1, 0))))
      (iprop(Held m c .bar 0 ∗ crd c .cp (true, 0, 0))) := by
  have hn : (duts c .bar).card = 0 + (duty c .bar (true, 1, 0)).toNat + (duty c .bar (true, 0, 0)).toNat + (duty c .bar (false, 0, 0)).toNat := by
    revert c; decide +kernel
  rw [hn]
  unfold sigNeed
  have h := ((does_cpy (m := m) (K := K) (c := c) _).beside _).thread (ops' := _)
    (((does_sig (m := m) (K := K) (c := c) (r := some false) rfl _).beside _).thread (ops' := _)
      ((does_wait' .bar (false, 0, 0) _ _).thread (ops' := _)
        (((does_sig (m := m) (K := K) (c := c) (r := some true) rfl _).beside _).thread (ops' := _)
          ((does_wait' .bar (true, 0, 0) _ _).thread (ops' := _)
            (((does_sig (m := m) (K := K) (c := c) (r := none) rfl _).beside _).thread (ops' := _)
              (does_wait' .bar (true, 1, 0) 0 rest))))))
  refine Does.post (P₀ := _) h ?_
  iintro ⟨H, H', -⟩
  isplitl [H] <;> iassumption

/-! ## The sends of the own block -/

theorem does_B (rest : List Op) :
    Does m K c opsB rest (bigSepL (step 0) fun y => gate (sends c y) (iprop(srcPts m c y ∗ sndNeed c y)))
      (bigSepL (step 0) fun y => gate (sends c y) (crd c (.sd y.1) y)) := by
  have h : opsB = (step 0).flatMap fun y => [.snd y.1 y.2.1 y.2.2] := by decide +kernel
  rw [h]
  exact does_list (fun y rest => does_snd y rest) (step 0) rest

/-! ## The travel of the blocks -/

/-- What remains of the semaphore `k` of device `c` after its last wait. -/
def posEnd (m : (ℓ : Loc nD τ sig) → Buf (Elt F) ℓ) (c : Dev nD) (k : Kd) : sProp (MT nD τ sig Dt (Elt F) ℕ UU ℕ) :=
  iprop(∃ R, ⌜∀ r, R ≤ r → (sch (F := F) m).duties (cell c k) r = ∅⌝ ∗ atPos ER (cell c k) R ∅ 0)

theorem held_zero (k : Kd) : Held (F := F) m c k 0 ⊢ iprop(posEnd m c k ∗ bigSep (duts c k) (pay m c k)) := Entails.refl _

/-- The receive semaphore of a chunk. -/
abbrev rcv (y : Dt) : Kd := .rc y.1 y.2.1 y.2.2

/-- The send of a chunk that arrived, if there is one. -/
def nxtS (y : Dt) : List Dt := if y.2.1 = 2 then [] else [(y.1, y.2.1 + 1, y.2.2)]

/-- Whether device `c` sends on what it gets as the chunk `y`. -/
def onward (c : Dev nD) (y : Dt) : Bool := has y.1 c && !decide (y.2.1 = 2)

/-- The left share of the chunk `y` that arrived. -/
def leftPts (m : (ℓ : Loc nD τ sig) → Buf (Elt F) ℓ) (c : Dev nD) (y : Dt) : sProp (MT nD τ sig Dt (Elt F) ℕ UU ℕ) :=
  oPts c (blk y.1 (y.2.1.val + 1) c) (hb c) y.2.2 fullShare.left (gold m c)

/-- What arrives is there after the wait for it, in two shares. -/
theorem got (y : Dt) : Held (F := F) m c (rcv y) 0 ⊢ iprop(posEnd m c (rcv y) ∗ gate (gets c y) (leftPts m c y) ∗ gate (gets c y) (pay m c .xs y)) := by
  refine (held_zero _).trans ?_
  iintro ⟨H, Hp⟩
  isplitl [H]; · iexact H
  cases hg : gets c y with
  | false => isplitr <;> iempintro
  | true =>
    have hd : duts c (rcv y) = {y} := by
      ext y'
      rw [mem_duts, Finset.mem_singleton]
      show (decide (y' = y) && decide (y.2.1.val < room y.1 c)) = true ↔ y' = y
      rw [show decide (y.2.1.val < room y.1 c) = true from hg, Bool.and_true, decide_eq_true_eq]
    have hs : bigSep (duts c (rcv y)) (pay m c (rcv y)) = oPts c (blk y.1 (y.2.1.val + 1) c) (hb c) y.2.2 fullShare (gold m c) := by
      rw [hd, bigSep_singleton]; rfl
    ihave Hp := (Entails.of_eq hs) $$ Hp
    unfold oPts
    ihave Hp := (pointsTo_share (PosShare.mem_left_op_right fullShare)).1 $$ Hp
    unfold gate leftPts pay oPts
    iexact Hp

theorem sends_next {y : Dt} (h : y.2.1 ≠ 2) : sends c (y.1, y.2.1 + 1, y.2.2) = (has y.1 c && gets c y) := by
  obtain ⟨d, s, q⟩ := y
  revert h; revert c d s; decide +revert +kernel

theorem srcPts_next {y : Dt} (h : y.2.1 ≠ 2) : srcPts m c (y.1, y.2.1 + 1, y.2.2) = leftPts m c y := by
  obtain ⟨d, s, q⟩ := y
  have h0 : s + 1 ≠ 0 ∧ (s + 1).val = s.val + 1 := by revert h; revert s; decide +revert +kernel
  unfold srcPts leftPts
  dsimp only
  rw [if_neg h0.1, h0.2]

theorem does_unit (y : Dt) (rest : List Op) :
    Does m K c (stepOps y) rest
      (iprop(Held m c (rcv y) (duty c (rcv y) y).toNat ∗ gate (duty c (rcv y) y) (crd c (rcv y) y)
        ∗ (bigSepL (nxtS y) fun y' => gate (sends c y') (sndNeed c y')) ∗ gate (gets c y) (parNeed c y)))
      (iprop(posEnd m c (rcv y) ∗ (bigSepL (nxtS y) fun y' => gate (sends c y') (crd c (.sd y'.1) y'))
        ∗ gate (gets c y) (crd c .xs y) ∗ gate (!onward c y) (gate (gets c y) (leftPts m c y)))) := by
  have hw := does_wait (m := m) (K := K) (c := c) (rcv y) y 0
  rw [Nat.zero_add] at hw
  have hp := does_par (m := m) (K := K) (c := c) y
  by_cases h : y.2.1 = 2
  · have hl : stepOps y = [.wait (rcv y) y, .par y.1 y.2.1 y.2.2] := by unfold stepOps; rw [if_pos h]; rfl
    have hn : nxtS y = [] := if_pos h
    have ho : onward c y = false := by unfold onward; rw [decide_eq_true h]; exact Bool.and_false _
    rw [hl, hn, ho]
    refine Does.cons (P' := iprop(gate (gets c y) (iprop(pay m c .xs y ∗ parNeed c y)) ∗ (posEnd m c (rcv y) ∗ gate (gets c y) (leftPts m c y)))) ?_ ?_
    · refine Does.pre ?_ (((hw _).frame (gate (gets c y) (parNeed c y))).post ?_)
      · iintro ⟨H, H', -, H''⟩
        isplitr [H'']
        · isplitl [H] <;> iassumption
        iexact H''
      · iintro ⟨H, HN⟩
        ihave H := (got y) $$ H
        icases H with ⟨H, HL, HR⟩
        isplitl [HR HN]
        · iapply (gate_sep' (gets c y) (pay m c .xs y) (parNeed c y))
          isplitl [HR] <;> iassumption
        isplitl [H] <;> iassumption
    · refine ((hp _).frame _).post ?_
      iintro ⟨H, H', H''⟩
      isplitl [H']; · iexact H'
      isplitr; · iempintro
      isplitl [H]; · iexact H
      iexact H''
  · have hl : stepOps y = [.wait (rcv y) y, .snd y.1 (y.2.1 + 1) y.2.2, .par y.1 y.2.1 y.2.2] := by unfold stepOps; rw [if_neg h]; rfl
    have hn : nxtS y = [(y.1, y.2.1 + 1, y.2.2)] := if_neg h
    have ho : onward c y = has y.1 c := by unfold onward; rw [decide_eq_false h]; exact Bool.and_true _
    have hs := does_snd (m := m) (K := K) (c := c) (y.1, y.2.1 + 1, y.2.2)
    dsimp only at hs
    rw [hl, hn, ho, bigSepL_singleton, bigSepL_singleton]
    rw [srcPts_next h] at hs
    rw [sends_next h] at hs ⊢
    refine Does.cons (P' := iprop(gate (has y.1 c && gets c y) (iprop(leftPts m c y ∗ sndNeed c (y.1, y.2.1 + 1, y.2.2)))
        ∗ (gate (gets c y) (iprop(pay m c .xs y ∗ parNeed c y)) ∗ posEnd m c (rcv y) ∗ gate (!has y.1 c) (gate (gets c y) (leftPts m c y))))) ?_ ?_
    · refine Does.pre ?_ (((hw _).frame (iprop(gate (has y.1 c && gets c y) (sndNeed c (y.1, y.2.1 + 1, y.2.2)) ∗ gate (gets c y) (parNeed c y)))).post ?_)
      · iintro ⟨H, H', HS, HN⟩
        isplitr [HS HN]
        · isplitl [H] <;> iassumption
        isplitl [HS] <;> iassumption
      · iintro ⟨H, HS, HN⟩
        ihave H := (got y) $$ H
        icases H with ⟨H, HL, HR⟩
        ihave HL := (gate_cut (has y.1 c) (gate (gets c y) (leftPts m c y))) $$ HL
        icases HL with ⟨HL, HL'⟩
        isplitl [HL HS]
        · iapply (gate_sep' (has y.1 c && gets c y) (leftPts m c y) (sndNeed c (y.1, y.2.1 + 1, y.2.2)))
          isplitl [HL]
          · rw [gate_and]; iexact HL
          iexact HS
        isplitl [HR HN]
        · iapply (gate_sep' (gets c y) (pay m c .xs y) (parNeed c y))
          isplitl [HR] <;> iassumption
        isplitl [H] <;> iassumption
    · refine Does.cons ((hs _).frame _) (Does.pre ?_ (((hp _).frame (iprop(gate (has y.1 c && gets c y) (crd c (.sd y.1) (y.1, y.2.1 + 1, y.2.2))
        ∗ posEnd m c (rcv y) ∗ gate (!has y.1 c) (gate (gets c y) (leftPts m c y))))).post ?_))
      · iintro ⟨H, HP, H', H''⟩
        isplitl [HP]; · iexact HP
        isplitl [H]; · iexact H
        isplitl [H'] <;> iassumption
      · iintro ⟨HX, H, H', H''⟩
        isplitl [H']; · iexact H'
        isplitl [H]; · iexact H
        isplitl [HX] <;> iassumption

theorem does_C (rest : List Op) :
    Does m K c opsC rest
      (bigSepL steps fun y => iprop(Held m c (rcv y) (duty c (rcv y) y).toNat ∗ gate (duty c (rcv y) y) (crd c (rcv y) y)
        ∗ (bigSepL (nxtS y) fun y' => gate (sends c y') (sndNeed c y')) ∗ gate (gets c y) (parNeed c y)))
      (bigSepL steps fun y => iprop(posEnd m c (rcv y) ∗ (bigSepL (nxtS y) fun y' => gate (sends c y') (crd c (.sd y'.1) y'))
        ∗ gate (gets c y) (crd c .xs y) ∗ gate (!onward c y) (gate (gets c y) (leftPts m c y)))) :=
  does_list (fun y rest => does_unit y rest) steps rest

/-! ## The waits at the end -/

/-- How many waits of a list are on the semaphore `k` and performed. -/
def cnt (c : Dev nD) (k : Kd) : List (Kd × Dt) → ℕ
  | [] => 0
  | w :: ws => cnt c k ws + if w.1 = k then (duty c k w.2).toNat else 0

theorem does_waits (S : Finset Kd) (ws : List (Kd × Dt)) (h : ∀ w ∈ ws, w.1 ∈ S) (rest : List Op) :
    Does m K c (ws.map fun w => .wait w.1 w.2) rest
      (iprop((bigSep S fun k => Held m c k (cnt c k ws)) ∗ bigSepL ws fun w => gate (duty c w.1 w.2) (crd c w.1 w.2)))
      (bigSep S fun k => Held m c k 0) := by
  induction ws with
  | nil =>
    refine Does.post (does_nil rest _) ?_
    iintro ⟨H, -⟩
    iexact H
  | cons w ws ih =>
    have ih := ih fun w' hw' => h w' (List.mem_cons_of_mem _ hw')
    have hw : w.1 ∈ S := h w List.mem_cons_self
    rw [List.map_cons, bigSepL_cons']
    have hS : {w.1} ⊆ S := Finset.singleton_subset_iff.mpr hw
    have e₁ : (bigSep S fun k => Held (F := F) m c k (cnt c k (w :: ws)))
        = iprop(Held m c w.1 (cnt c w.1 ws + (duty c w.1 w.2).toNat) ∗ bigSep (S \ {w.1}) fun k => Held m c k (cnt c k ws)) := by
      rw [bigSep_sub hS, bigSep_singleton]
      congr 1
      · show Held m c w.1 (cnt c w.1 ws + if w.1 = w.1 then (duty c w.1 w.2).toNat else 0) = _
        rw [if_pos rfl]
      · refine bigSep_congr fun k hk => ?_
        have hk : w.1 ≠ k := fun e => (Finset.mem_sdiff.mp hk).2 (by rw [e]; exact Finset.mem_singleton_self _)
        show Held m c k (cnt c k ws + if w.1 = k then (duty c k w.2).toNat else 0) = _
        rw [if_neg hk, Nat.add_zero]
    have e₂ : (bigSep S fun k => Held (F := F) m c k (cnt c k ws))
        = iprop(Held m c w.1 (cnt c w.1 ws) ∗ bigSep (S \ {w.1}) fun k => Held m c k (cnt c k ws)) := by
      rw [bigSep_sub hS, bigSep_singleton]
    rw [e₁]
    refine Does.cons (Does.pre ?_ ((does_wait w.1 w.2 (cnt c w.1 ws) _).frame (iprop((bigSep (S \ {w.1}) fun k => Held m c k (cnt c k ws))
      ∗ bigSepL ws fun w => gate (duty c w.1 w.2) (crd c w.1 w.2))))) (Does.pre ?_ ih)
    · iintro ⟨⟨H, HR⟩, HC, HL⟩
      isplitl [H HC]
      · isplitl [H] <;> iassumption
      isplitl [HR] <;> iassumption
    · rw [e₂]
      iintro ⟨H, HR, HL⟩
      isplitr [HL]
      · isplitl [H] <;> iassumption
      iexact HL

/-- The semaphores waited on at the end. -/
def lastKd : Finset Kd := {.xr, .sd true, .sd false, .xs, .cp}

theorem cnt_waits {k : Kd} (h : k ∈ lastKd) : cnt c k waits = (duts c k).card := by
  revert k c; decide +kernel

theorem does_W (rest : List Op) :
    Does m K c opsW rest
      (iprop((bigSep lastKd fun k => Held m c k (duts c k).card) ∗ bigSepL waits fun w => gate (duty c w.1 w.2) (crd c w.1 w.2)))
      (bigSep lastKd fun k => Held m c k 0) := by
  have e : (bigSep lastKd fun k => Held (F := F) m c k (duts c k).card) = bigSep lastKd fun k => Held m c k (cnt c k waits) :=
    bigSep_congr fun k hk => by rw [cnt_waits hk]
  rw [e]
  exact does_waits lastKd waits (by decide +kernel) rest

end Cert.Gather
-- ==== Proof.Split.lean ====
/-
# The parts of the buffers

How the result and the argument of one device split into the parts that the program works on, and how what the barrier hands over is made
of these parts.
-/
module

public import proofs.«01_k».proof.Proof.Phases

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable {m : (ℓ : Loc nD τ sig) → Buf (Elt F) ℓ} {c : Dev nD}

/-! ## The result -/

/-- The half of a block that a piece of the result lies in. -/
def halfP (c : Dev nD) (b : Bool) : Fin 2 := if b then hb c else ob c

/-- The elements of a chunk of the result. -/
def oSet (b : Fin 4) (h : Fin 2) (q : Fin 4) : Finset S65536x1024.Idx := (oCh b h q).view.set
/-- The elements of a block of the result. -/
def bSet (b : Fin 4) : Finset S65536x1024.Idx := (bCh b).view.set

/-- A piece of the result: a chunk that arrives, in either half. -/
def piece (c : Dev nD) (t : Dt × Bool) : Finset S65536x1024.Idx := oSet (blk t.1.1 (t.1.2.1.val + 1) c) (halfP c t.2) t.1.2.2

theorem mem_oSet {b : Fin 4} {h : Fin 2} {q : Fin 4} {i : S65536x1024.Idx} : i ∈ oSet b h q ↔
    16384 * b.val + 8192 * h.val + 2048 * q.val ≤ (i 0).val ∧ (i 0).val < 16384 * b.val + 8192 * h.val + 2048 * q.val + 2048 := mem_oCh
theorem mem_bSet {b : Fin 4} {i : S65536x1024.Idx} : i ∈ bSet b ↔ 16384 * b.val ≤ (i 0).val ∧ (i 0).val < 16384 * b.val + 16384 := mem_bCh
theorem blkOf_oSet {b : Fin 4} {h : Fin 2} {q : Fin 4} {i : S65536x1024.Idx} (hi : i ∈ oSet b h q) : blkOf i = b := blkOf_oCh hi
theorem halfOf_oSet {b : Fin 4} {h : Fin 2} {q : Fin 4} {i : S65536x1024.Idx} (hi : i ∈ oSet b h q) : halfOf i = h := halfOf_oCh hi
theorem blkOf_bSet {b : Fin 4} {i : S65536x1024.Idx} (hi : i ∈ bSet b) : blkOf i = b := blkOf_bCh hi

theorem blk_inj {d d' : Bool} {s s' : Fin 3} (h : s.val < room d c) (h' : s'.val < room d' c) (e : blk d (s.val + 1) c = blk d' (s'.val + 1) c) :
    d = d' ∧ s = s' := by
  revert c d d' s s'; decide +kernel

theorem blk_ne {d : Bool} {s : Fin 3} (h : s.val < room d c) : blk d (s.val + 1) c ≠ blk true 0 c := by
  revert c d s; decide +kernel

theorem blk_surj (c : Dev nD) (b : Fin 4) (h : b ≠ blk true 0 c) : ∃ (d : Bool) (s : Fin 3), s.val < room d c ∧ blk d (s.val + 1) c = b := by
  revert c b; decide +kernel

theorem half_inj {b b' : Bool} (e : halfP c b = halfP c b') : b = b' := by
  revert c b b'; decide +kernel

theorem half_surj (c : Dev nD) (h : Fin 2) : ∃ b, halfP c b = h := by
  revert c h; decide +kernel

theorem piece_inj {t t' : Dt × Bool} (h : gets c t.1 = true) (h' : gets c t'.1 = true) {i : S65536x1024.Idx} (hi : i ∈ piece c t) (hi' : i ∈ piece c t') : t = t' := by
  obtain ⟨⟨d, s, q⟩, b⟩ := t
  obtain ⟨⟨d', s', q'⟩, b'⟩ := t'
  have eb := (blkOf_oSet hi).symm.trans (blkOf_oSet hi')
  have eh := (halfOf_oSet hi).symm.trans (halfOf_oSet hi')
  have m1 := mem_oSet.mp hi
  have m2 := mem_oSet.mp hi'
  obtain ⟨rfl, rfl⟩ := blk_inj (of_decide_eq_true h) (of_decide_eq_true h') eb
  obtain rfl := half_inj eh
  have : q = q' := Fin.ext (by dsimp only at m1 m2; omega)
  rw [this]

/-- The pieces of the result that arrive. -/
def pieces (c : Dev nD) : Finset (Dt × Bool) := Finset.univ.filter fun t => gets c t.1 = true

theorem out_cover (c : Dev nD) : (Finset.univ : Finset S65536x1024.Idx) = bSet (blk true 0 c) ∪ (pieces c).biUnion (piece c) := by
  refine (Finset.eq_univ_iff_forall.mpr fun i => ?_).symm
  have hi : (i 0).val < 65536 := (i 0).isLt
  by_cases hb' : blkOf i = blk true 0 c
  · refine Finset.mem_union_left _ (mem_bSet.mpr ?_)
    have := congrArg Fin.val hb'
    have e : (blkOf i).val = (i 0).val / 16384 := rfl
    omega
  · refine Finset.mem_union_right _ (Finset.mem_biUnion.mpr ?_)
    obtain ⟨d, s, hs, hd⟩ := blk_surj c _ hb'
    obtain ⟨b, hb⟩ := half_surj c (halfOf i)
    refine ⟨((d, s, ⟨(i 0).val / 2048 % 4, Nat.mod_lt _ (by decide)⟩), b), Finset.mem_filter.mpr ⟨Finset.mem_univ _, decide_eq_true hs⟩, mem_oSet.mpr ?_⟩
    dsimp only
    rw [hd, hb]
    have e : (blkOf i).val = (i 0).val / 16384 := rfl
    have e' : (halfOf i).val = (i 0).val / 8192 % 2 := rfl
    omega

theorem out_disj (c : Dev nD) : Disjoint (bSet (blk true 0 c)) ((pieces c).biUnion (piece c)) := by
  refine Finset.disjoint_left.mpr fun i hi hj => ?_
  obtain ⟨t, ht, hit⟩ := Finset.mem_biUnion.mp hj
  exact blk_ne (of_decide_eq_true (Finset.mem_filter.mp ht).2) ((blkOf_oSet hit).symm.trans (blkOf_bSet hi))

/-- The result is the own block and the chunks that arrive, in both halves. -/
theorem out_split (c : Dev nD) (f : Buf (Elt F) ((c : Thread nD τ).loc main_v1)) :
    ((c : Thread nD τ).loc main_v1 ↦{fullShare} f : sProp 𝕄)
      ⊣⊢ iprop(bPts c (blk true 0 c) f ∗ bigSepL steps fun y => gate (gets c y)
          (iprop(oPts c (blk y.1 (y.2.1.val + 1) c) (hb c) y.2.2 fullShare f ∗ oPts c (blk y.1 (y.2.1.val + 1) c) (ob c) y.2.2 fullShare f))) := by
  have e : ((c : Thread nD τ).loc main_v1 ↦[(pieces c).biUnion (piece c)]{fullShare} f : sProp 𝕄)
      = bigSepL steps fun y => gate (gets c y)
          (iprop(oPts c (blk y.1 (y.2.1.val + 1) c) (hb c) y.2.2 fullShare f ∗ oPts c (blk y.1 (y.2.1.val + 1) c) (ob c) y.2.2 fullShare f)) := by
    rw [pointsTo_biUnion (ℓ := (c : Thread nD τ).loc main_v1) (pieces c) (piece c) fun t ht t' ht' hne => Finset.disjoint_left.mpr fun i hi hi' =>
      hne (piece_inj (Finset.mem_filter.mp ht).2 (Finset.mem_filter.mp ht').2 hi hi')]
    unfold pieces
    rw [bigSep_filter, bigSep_univ_prod, ← bigSep_steps]
    refine bigSep_congr fun y _ => ?_
    rw [bigSep_univ_eq_bigSepL [true, false] (by decide) (by decide), bigSepL_cons', bigSepL_singleton]
    cases hg : gets c y with
    | true => rw [if_pos rfl, if_pos rfl]; show _ = iprop(_ ∗ _); rfl
    | false =>
      rw [if_neg (fun h => by cases h), if_neg (fun h => by cases h)]
      exact equiv_iff.mp BI.emp_sep
  show (_ ↦[Finset.univ]{fullShare} f : sProp 𝕄) ⊣⊢ _
  rw [← e]
  have h := pointsTo_union (Ix := Dt) (Name := ℕ) (U := UU) (Lvl := ℕ) (ℓ := (c : Thread nD τ).loc main_v1) (q := fullShare) (f := f) (out_disj c)
  rw [← out_cover c] at h
  exact h

/-- The parts of the result joined. -/
theorem out_join (c : Dev nD) :
    iprop(bPts c (blk true 0 c) (own m c) ∗ bigSepL steps fun y => gate (gets c y)
        (iprop(oPts c (blk y.1 (y.2.1.val + 1) c) (hb c) y.2.2 fullShare (gold m c) ∗ oPts c (blk y.1 (y.2.1.val + 1) c) (ob c) y.2.2 fullShare (gold m c))))
      ⊢ ((c : Thread nD τ).loc main_v1 ↦{fullShare} result m c : sProp 𝕄) := by
  refine BIBase.Entails.trans ?_ (out_split c (result m c)).2
  refine Laws.sep_mono ?_ ?_
  · unfold bPts
    refine Entails.of_eq (pointsTo_congr fun i hi => ?_)
    unfold result
    rw [if_pos (blkOf_bSet hi)]
  · refine bigSepL_mono fun y _ => gate_mono _ fun hg => ?_
    have hne := blk_ne (of_decide_eq_true hg)
    unfold oPts
    refine Laws.sep_mono ?_ ?_ <;>
      refine Entails.of_eq (pointsTo_congr fun i hi => ?_) <;>
      · unfold result
        rw [if_neg (by rw [blkOf_oSet hi]; exact hne)]

end Cert.Gather
-- ==== Proof.Hand.lean ====
/-
# What is handed over

How the argument of one device splits into what the sends read, and how what the barrier hands over is made of parts of the results.
-/
module

public import proofs.«01_k».proof.Proof.Split

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable {m : (ℓ : Loc nD τ sig) → Buf (Elt F) ℓ} {c : Dev nD}

/-! ## The argument -/

/-- The elements of a chunk of the argument. -/
def aSet (h : Fin 2) (q : Fin 4) : Finset S16384x1024.Idx := (aCh h q).view.set
theorem mem_aSet {h : Fin 2} {q : Fin 4} {i : S16384x1024.Idx} : i ∈ aSet h q ↔
    8192 * h.val + 2048 * q.val ≤ (i 0).val ∧ (i 0).val < 8192 * h.val + 2048 * q.val + 2048 := mem_aCh

/-- The elements of the argument that the device sends. -/
def aHalf (c : Dev nD) : Finset S16384x1024.Idx := (Finset.univ : Finset (Fin 4)).biUnion (aSet (hb c))

/-- The part of the argument that the device does not send. -/
def aRest (m : (ℓ : Loc nD τ sig) → Buf (Elt F) ℓ) (c : Dev nD) (π : PosShare TreeShare) : sProp (MT nD τ sig Dt (Elt F) ℕ UU ℕ) :=
  (c : Thread nD τ).loc main_arg0 ↦[Finset.univ \ aHalf c]{π} m ((c : Thread nD τ).loc main_arg0)

/-- The whole argument of a device is all of its buffer. -/
theorem wPts_eq (π : PosShare TreeShare) : wPts (F := F) m c π = ((c : Thread nD τ).loc main_arg0 ↦{π} m ((c : Thread nD τ).loc main_arg0) : sProp 𝕄) := by
  unfold wPts
  have h : (aM : Memref sig .tc .hbm S16384x1024 .bf16).view.set = Finset.univ := View.set_whole main_arg0
  exact congrArg (fun S => ((c : Thread nD τ).loc main_arg0 ↦[S]{π} m ((c : Thread nD τ).loc main_arg0) : sProp 𝕄)) h

/-- The argument is the four chunks that are sent and the rest. -/
theorem arg_split (π : PosShare TreeShare) :
    wPts (F := F) m c π ⊣⊢ iprop((bigSepL (List.finRange 4) fun q => aPts m c (hb c) q π) ∗ aRest m c π) := by
  have e : ((c : Thread nD τ).loc main_arg0 ↦[aHalf c]{π} m ((c : Thread nD τ).loc main_arg0) : sProp 𝕄)
      = bigSepL (List.finRange 4) fun q => aPts m c (hb c) q π := by
    unfold aHalf
    rw [pointsTo_biUnion (ℓ := (c : Thread nD τ).loc main_arg0) Finset.univ (aSet (hb c)) fun q _ q' _ hne => Finset.disjoint_left.mpr fun i hi hi' =>
      hne (Fin.ext (by have m1 := mem_aSet.mp hi; have m2 := mem_aSet.mp hi'; omega)),
      bigSep_univ_eq_bigSepL (List.finRange 4) (by decide) (by decide)]
    rfl
  rw [wPts_eq, ← e]
  exact pointsTo_split_subset (ℓ := (c : Thread nD τ).loc main_arg0) (Finset.subset_univ _)

theorem step_zero : step 0 = (List.finRange 4).flatMap fun q => [(true, 0, q), (false, 0, q)] := rfl

/-- What the sends of the own block read, as chunks of the argument. -/
theorem src_zero : (bigSepL (step 0) fun y => srcPts (F := F) m c y)
    = bigSepL (List.finRange 4) fun q => iprop(aPts m c (hb c) q (shA true) ∗ aPts m c (hb c) q (shA false)) := by
  rw [step_zero, bigSepL_flatMap]
  rfl

/-- The argument, split for the local copy and the sends of both directions. -/
theorem arg_take : ((c : Thread nD τ).loc main_arg0 ↦{fullShare} m ((c : Thread nD τ).loc main_arg0) : sProp 𝕄)
    ⊢ iprop(wPts m c fullShare.left ∗ (bigSepL (step 0) fun y => srcPts m c y) ∗ aRest m c (shA true) ∗ aRest m c (shA false)) := by
  rw [src_zero]
  refine (pointsTo_share (PosShare.mem_left_op_right fullShare)).1.trans ?_
  have h := (pointsTo_share (Ix := Dt) (Name := ℕ) (U := UU) (Lvl := ℕ) (ℓ := (c : Thread nD τ).loc main_arg0) (I := Finset.univ)
    (f := m ((c : Thread nD τ).loc main_arg0)) (PosShare.mem_left_op_right fullShare.right)).1
  refine (Laws.sep_mono (Entails.of_eq (wPts_eq _).symm) (h.trans (Laws.sep_mono ((Entails.of_eq (wPts_eq (shA true)).symm).trans (arg_split _).1)
    ((Entails.of_eq (wPts_eq (shA false)).symm).trans (arg_split _).1)))).trans ?_
  iintro ⟨HW, ⟨HT, HT'⟩, HF, HF'⟩
  isplitl [HW]; · iexact HW
  isplitl [HT HF]
  · iapply (bigSepL_sep' (List.finRange 4) (fun q => aPts m c (hb c) q (shA true)) (fun q => aPts m c (hb c) q (shA false)))
    isplitl [HT] <;> iassumption
  isplitl [HT'] <;> iassumption

/-- The argument, joined again. -/
theorem arg_give : iprop(wPts m c fullShare.left ∗ (bigSepL (step 0) fun y => srcPts m c y) ∗ aRest m c (shA true) ∗ aRest m c (shA false))
    ⊢ ((c : Thread nD τ).loc main_arg0 ↦{fullShare} m ((c : Thread nD τ).loc main_arg0) : sProp 𝕄) := by
  rw [src_zero]
  refine BIBase.Entails.trans ?_ (pointsTo_share (PosShare.mem_left_op_right fullShare)).2
  have h := (pointsTo_share (Ix := Dt) (Name := ℕ) (U := UU) (Lvl := ℕ) (ℓ := (c : Thread nD τ).loc main_arg0) (I := Finset.univ)
    (f := m ((c : Thread nD τ).loc main_arg0)) (PosShare.mem_left_op_right fullShare.right)).2
  refine BIBase.Entails.trans ?_ (Laws.sep_mono (Entails.of_eq (wPts_eq _)) ((Laws.sep_mono ((arg_split _).2.trans (Entails.of_eq (wPts_eq (shA true))))
    ((arg_split _).2.trans (Entails.of_eq (wPts_eq (shA false))))).trans h))
  iintro ⟨HW, HS, HT', HF'⟩
  ihave HS := (bigSepL_sep (List.finRange 4) (fun q => aPts m c (hb c) q (shA true)) (fun q => aPts m c (hb c) q (shA false))) $$ HS
  icases HS with ⟨HT, HF⟩
  isplitl [HW]; · iexact HW
  isplitl [HT HT']
  · isplitl [HT] <;> iassumption
  isplitl [HF] <;> iassumption

/-! ## What the barrier hands over -/

/-- The chunks of a device that its neighbour writes, from the side of the neighbour. -/
theorem land_row (d : Bool) : (bigSepL steps fun y => gate (decide (y.1 = !d)) (gate (gets c y) (oAny (F := F) c (blk y.1 (y.2.1.val + 1) c) (hb c) y.2.2)))
    ⊢ gate (has d c) (landRow (nb d c) (!d)) := by
  cases hh : has d c with
  | false => iintro -; iempintro
  | true =>
    show _ ⊢ landRow (nb d c) (!d)
    unfold landRow
    rw [bigSep_steps]
    refine bigSepL_mono fun y _ => ?_
    obtain ⟨e, s, q⟩ := y
    dsimp only
    rw [gate_and]
    refine gate_mono _ fun he => ?_
    obtain rfl := of_decide_eq_true he
    rw [act_nb_not hh, nb_nb_not, blk_nb_not hh, hb_nb hh]

/-- The chunks of a device that arrive are those its two neighbours write. -/
theorem land_rows : (bigSepL steps fun y => gate (gets c y) (oAny (F := F) c (blk y.1 (y.2.1.val + 1) c) (hb c) y.2.2))
    ⊢ iprop(gate (has false c) (landRow (nb false c) true) ∗ gate (has true c) (landRow (nb true c) false)) := by
  refine (bigSepL_mono fun y _ => ?_).trans ((bigSepL_sep steps _ _).trans (Laws.sep_mono (land_row false) (land_row true)))
  refine (gate_cut (decide (y.1 = true)) _).trans (Laws.sep_mono (Entails.refl _) (Entails.of_eq ?_))
  congr 1
  cases y.1 <;> rfl

/-- The chunks of a device that the device of the other plane writes, from the side of that device. -/
theorem land_pair : (bigSepL steps fun y => gate (gets c y) (oAny (F := F) c (blk y.1 (y.2.1.val + 1) c) (ob c) y.2.2)) ⊢ landPair (pa c) := by
  unfold landPair
  rw [bigSep_steps]
  refine bigSepL_mono fun y _ => ?_
  have e : act (pa c) (.par y.1 y.2.1 y.2.2) = gets c y := by show decide (_ < room y.1 (pa c)) = _; rw [room_pa]
  rw [e, pa_pa, blk_pa, hb_pa]

theorem gate_dir (d : Bool) (P : sProp 𝕄) : iprop(gate (decide (d = true)) P ∗ gate (decide (d = false)) P) ⊢ P := by
  have e : decide (d = false) = !decide (d = true) := by cases d <;> rfl
  rw [e]
  exact gate_join _ _

/-- What the barrier of a device hands over: the chunks that it sends to, on its neighbours and on the device of the other plane. -/
theorem bar_out : Held (F := F) m c .bar 0 ⊢ iprop(posEnd m c .bar
    ∗ (bigSepL steps fun y => gate (sends c y) (oAny (nb y.1 c) (blk y.1 y.2.1.val c) (hb c) y.2.2))
    ∗ bigSepL steps fun y => gate (gets c y) (oAny (pa c) (blk y.1 (y.2.1.val + 1) c) (hb c) y.2.2)) := by
  refine (held_zero _).trans (Laws.sep_mono (Entails.refl _) ?_)
  have eT : duty c .bar (true, 0, 0) = has true c := by revert c; decide +kernel
  have eF : duty c .bar (false, 0, 0) = has false c := by revert c; decide +kernel
  have eP : duty c .bar (true, 1, 0) = true := by revert c; decide +kernel
  have e : bigSep (duts c .bar) (pay (F := F) m c .bar) = bigSep Finset.univ fun y : Dt => if duty c .bar y = true then pay m c .bar y else iprop(emp) := by
    unfold duts
    exact bigSep_filter _ _ _
  rw [e, bigSep_sub (Finset.subset_univ ({(true, 0, 0), (false, 0, 0), (true, 1, 0)} : Finset Dt)),
    bigSep_eq_bigSepL_of_eq [(true, 0, 0), (false, 0, 0), (true, 1, 0)] (by decide) (by decide), bigSepL_cons', bigSepL_cons', bigSepL_singleton]
  rw [eT, eF, eP, if_pos rfl]
  have row : ∀ d : Bool, (if has d c = true then pay m c .bar (d, 0, 0) else iprop(emp))
      ⊢ bigSepL steps fun y => gate (decide (y.1 = d)) (gate (sends c y) (oAny (F := F) (nb y.1 c) (blk y.1 y.2.1.val c) (hb c) y.2.2)) := by
    intro d
    cases hh : has d c with
    | true =>
      rw [if_pos rfl]
      show landRow c d ⊢ _
      unfold landRow
      rw [bigSep_steps]
      exact bigSepL_mono fun y _ => Entails.of_eq (gate_and _ _ _)
    | false =>
      rw [if_neg (fun h => by cases h)]
      refine BIBase.Entails.trans ?_ (bigSepL_mono (Φ := fun _ => iprop(emp)) fun y _ => ?_)
      · induction steps with
        | nil => exact Entails.refl _
        | cons x l ih => rw [bigSepL_cons']; iintro H; isplitr; · iempintro
                         iapply ih; iexact H
      · by_cases hy : y.1 = d
        · have hs : sends c y = false := by show (has y.1 c && _) = false; rw [hy, hh]; rfl
          rw [hs, decide_eq_true hy]; exact Entails.refl _
        · rw [decide_eq_false hy]; exact Entails.refl _
  iintro ⟨⟨HT, HF, HP⟩, -⟩
  ihave HT := (row true) $$ HT
  ihave HF := (row false) $$ HF
  isplitr [HP]
  · ihave H := (bigSepL_sep' steps _ _) $$ [HT HF]
    · isplitl [HT] <;> iassumption
    iapply (bigSepL_mono (l := steps) fun y _ => gate_dir y.1 (gate (sends c y) (oAny (nb y.1 c) (blk y.1 y.2.1.val c) (hb c) y.2.2)))
    iexact H
  · have hp : pay m c .bar (true, 1, 0) = landPair (F := F) c := by
      show (if (1 : Fin 3) = 0 then landRow c true else landPair c) = _
      exact if_neg (by decide)
    ihave HP := (Entails.of_eq hp) $$ HP
    have hq : landPair (F := F) c = bigSepL steps fun y => gate (gets c y) (oAny (pa c) (blk y.1 (y.2.1.val + 1) c) (hb c) y.2.2) := by
      unfold landPair; rw [bigSep_steps]; rfl
    ihave HP := (Entails.of_eq hq) $$ HP
    iexact HP

end Cert.Gather
-- ==== Proof.Whole.lean ====
/-
# The whole program of one device

From the positions, tokens and credits that a device starts with and its two buffers, to the result.
-/
module

public import proofs.«01_k».proof.Proof.Hand

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable {m : (ℓ : Loc nD τ sig) → Buf (Elt F) ℓ} {K : Dev nD × Kd → ℕ} {c : Dev nD}

/-! ## Families over the semaphores and the contributions -/

theorem kinds_split (Φ : Kd → sProp 𝕄) : bigSep Finset.univ Φ
    = iprop((bigSepL steps fun y => Φ (rcv y)) ∗ Φ .bar ∗ Φ .xr ∗ Φ (.sd true) ∗ Φ (.sd false) ∗ Φ .xs ∗ Φ .cp) := by
  rw [bigSep_univ_eq_bigSepL kinds (by decide +kernel) (by decide +kernel)]
  unfold kinds
  rw [bigSepL_append, bigSepL_map, bigSepL_cons', bigSepL_cons', bigSepL_cons', bigSepL_cons', bigSepL_cons', bigSepL_singleton]

theorem last_split (Φ : Kd → sProp 𝕄) : bigSep lastKd Φ = iprop(Φ .xr ∗ Φ (.sd true) ∗ Φ (.sd false) ∗ Φ .xs ∗ Φ .cp) := by
  rw [bigSep_eq_bigSepL_of_eq [.xr, .sd true, .sd false, .xs, .cp] (by decide) (by decide)]
  rw [bigSepL_cons', bigSepL_cons', bigSepL_cons', bigSepL_cons', bigSepL_singleton]

/-- The contributions to a semaphore, as a family over all names. -/
theorem duts_fam (k : Kd) (Φ : Dt → sProp 𝕄) : bigSep (duts c k) Φ = bigSepL steps fun y => gate (duty c k y) (Φ y) := by
  unfold duts
  rw [bigSep_filter, bigSep_steps]
  congr 1
  funext y
  cases duty c k y <;> rfl

/-- The sends are those of the own block and, for each chunk that arrives, the one after it. -/
theorem steps_perm : steps.Perm (step 0 ++ steps.flatMap nxtS) := by decide +kernel

theorem fam_next (Φ : Dt → sProp 𝕄) : bigSepL steps Φ ⊢ iprop(bigSepL (step 0) Φ ∗ bigSepL steps fun y => bigSepL (nxtS y) Φ) := by
  refine (bigSepL_perm steps_perm Φ).trans (Entails.of_eq ?_)
  rw [bigSepL_append, bigSepL_flatMap]

theorem fam_next' (Φ : Dt → sProp 𝕄) : iprop(bigSepL (step 0) Φ ∗ bigSepL steps fun y => bigSepL (nxtS y) Φ) ⊢ bigSepL steps Φ := by
  refine BIBase.Entails.trans (Entails.of_eq ?_) (bigSepL_perm steps_perm.symm Φ)
  rw [bigSepL_append, bigSepL_flatMap]

theorem card_rcv (y : Dt) : (duts c (rcv y)).card = (duty c (rcv y) y).toNat := by
  revert c y; decide +kernel

theorem duty_sd (y : Dt) : duty c (.sd y.1) y = sends c y := by
  show (decide (y.1 = y.1) && has y.1 c && decide (y.2.1.val ≤ room y.1 c)) = (has y.1 c && decide (y.2.1.val ≤ room y.1 c))
  rw [decide_eq_true rfl, Bool.true_and]

/-! ## Start and end -/

/-- The tokens of the contributions that device `c` makes. -/
def toks (c : Dev nD) : sProp 𝕄 :=
  iprop(tok c .cp (true, 0, 0) ∗ gate (has false c) (tok (nb false c) .bar (true, 0, 0)) ∗ gate (has true c) (tok (nb true c) .bar (false, 0, 0))
    ∗ tok (pa c) .bar (true, 1, 0)
    ∗ (bigSepL steps fun y => gate (sends c y) (iprop(tok c (.sd y.1) y ∗ tok (nb y.1 c) (rcv y) y)))
    ∗ bigSepL steps fun y => gate (gets c y) (iprop(tok c .xs y ∗ tok (pa c) .xr y)))

/-- The credits of the contributions that other devices make to device `c`. -/
def creds (c : Dev nD) : sProp 𝕄 :=
  iprop(gate (duty c .bar (false, 0, 0)) (crd c .bar (false, 0, 0)) ∗ gate (duty c .bar (true, 0, 0)) (crd c .bar (true, 0, 0))
    ∗ gate (duty c .bar (true, 1, 0)) (crd c .bar (true, 1, 0))
    ∗ (bigSepL steps fun y => gate (duty c (rcv y) y) (crd c (rcv y) y)) ∗ bigSepL steps fun y => gate (duty c .xr y) (crd c .xr y))

variable (m c) in
/-- What device `c` starts with. -/
def begins : sProp 𝕄 :=
  iprop((bigSep Finset.univ fun k => atPos ER (cell c k) 0 ∅ 0) ∗ toks c ∗ creds c
    ∗ ((c : Thread nD τ).loc main_arg0 ↦{fullShare} m ((c : Thread nD τ).loc main_arg0))
    ∗ ∃ f : Buf (Elt F) ((c : Thread nD τ).loc main_v1), ((c : Thread nD τ).loc main_v1 ↦{fullShare} f))

variable (m c) in
/-- What device `c` ends with. -/
def ends : sProp 𝕄 :=
  iprop((bigSep Finset.univ fun k => posEnd m c k)
    ∗ ((c : Thread nD τ).loc main_arg0 ↦{fullShare} m ((c : Thread nD τ).loc main_arg0))
    ∗ ((c : Thread nD τ).loc main_v1 ↦{fullShare} result m c))

/-! ## Between the phases -/

variable (m c) in
/-- What is not used before the barrier. -/
def rest0 : sProp 𝕄 :=
  iprop((bigSepL steps fun y => Held m c (rcv y) (duty c (rcv y) y).toNat) ∗ (bigSep lastKd fun k => Held m c k (duts c k).card)
    ∗ (bigSepL steps fun y => gate (sends c y) (iprop(tok c (.sd y.1) y ∗ tok (nb y.1 c) (rcv y) y)))
    ∗ (bigSepL steps fun y => gate (gets c y) (iprop(tok c .xs y ∗ tok (pa c) .xr y)))
    ∗ (bigSepL steps fun y => gate (duty c (rcv y) y) (crd c (rcv y) y)) ∗ (bigSepL steps fun y => gate (duty c .xr y) (crd c .xr y))
    ∗ (bigSepL (step 0) fun y => srcPts m c y) ∗ aRest m c (shA true) ∗ aRest m c (shA false))

variable (m c) in
/-- What the sends of the own block do not use. -/
def rest1 : sProp 𝕄 :=
  iprop((bigSepL steps fun y => Held m c (rcv y) (duty c (rcv y) y).toNat) ∗ (bigSepL steps fun y => gate (duty c (rcv y) y) (crd c (rcv y) y))
    ∗ (bigSepL steps fun y => bigSepL (nxtS y) fun y' => gate (sends c y') (sndNeed c y')) ∗ (bigSepL steps fun y => gate (gets c y) (parNeed c y))
    ∗ (bigSep lastKd fun k => Held m c k (duts c k).card) ∗ (bigSepL steps fun y => gate (duty c .xr y) (crd c .xr y)) ∗ crd c .cp (true, 0, 0)
    ∗ posEnd m c .bar ∗ (bigSepL (step 0) fun y => gate (!sends c y) (srcPts m c y)) ∗ aRest m c (shA true) ∗ aRest m c (shA false))

variable (m c) in
/-- What the travel of the blocks does not use. -/
def rest2 : sProp 𝕄 :=
  iprop((bigSep lastKd fun k => Held m c k (duts c k).card) ∗ (bigSepL steps fun y => gate (duty c .xr y) (crd c .xr y)) ∗ crd c .cp (true, 0, 0)
    ∗ (bigSepL (step 0) fun y => gate (sends c y) (crd c (.sd y.1) y))
    ∗ posEnd m c .bar ∗ (bigSepL (step 0) fun y => gate (!sends c y) (srcPts m c y)) ∗ aRest m c (shA true) ∗ aRest m c (shA false))

variable (m c) in
/-- What the waits at the end do not use. -/
def rest3 : sProp 𝕄 :=
  iprop((bigSepL steps fun y => posEnd m c (rcv y)) ∗ (bigSepL steps fun y => gate (!onward c y) (gate (gets c y) (leftPts m c y)))
    ∗ posEnd m c .bar ∗ (bigSepL (step 0) fun y => gate (!sends c y) (srcPts m c y)) ∗ aRest m c (shA true) ∗ aRest m c (shA false))

/-- The result of a device, split for the local copy and for what the barrier of others hands over. -/
theorem out_take (f : Buf (Elt F) ((c : Thread nD τ).loc main_v1)) : ((c : Thread nD τ).loc main_v1 ↦{fullShare} f : sProp 𝕄)
    ⊢ iprop((∃ f, bPts c (blk true 0 c) f) ∗ (gate (has false c) (landRow (nb false c) true) ∗ gate (has true c) (landRow (nb true c) false)) ∗ landPair (pa c)) := by
  refine (out_split c f).1.trans (Laws.sep_mono ?_ ?_)
  · iintro H; iexists f; iexact H
  · refine (bigSepL_mono fun y _ => gate_sep _ _ _).trans ((bigSepL_sep steps _ _).trans (Laws.sep_mono ?_ ?_))
    · refine BIBase.Entails.trans (bigSepL_mono fun y _ => gate_mono _ fun _ => ?_) land_rows
      iintro H; unfold oAny; iexists f; iexact H
    · refine BIBase.Entails.trans (bigSepL_mono fun y _ => gate_mono _ fun _ => ?_) land_pair
      iintro H; unfold oAny; iexists f; iexact H

theorem pay_row (d : Bool) (c : Dev nD) : pay m c .bar (d, 0, 0) = landRow (F := F) c d := by
  show (if (0 : Fin 3) = 0 then landRow c d else landPair c) = _
  exact if_pos rfl

theorem pay_pair (c : Dev nD) : pay m c .bar (true, 1, 0) = landPair (F := F) c := by
  show (if (1 : Fin 3) = 0 then landRow c true else landPair c) = _
  exact if_neg (by decide)

theorem sig_need (r : Bool) (y : Dt) (c' : Dev nD) (P : sProp 𝕄) (hP : pay m c' .bar y = P) :
    iprop(gate (has r c) (tok c' .bar y) ∗ gate (has r c) P) ⊢ sigNeed m c (some r) c' y := by
  subst hP
  exact gate_sep' _ _ _

theorem before_A : begins (F := F) m c ⊢ iprop((Held m c .bar (duts c .bar).card
        ∗ (wPts m c fullShare.left ∗ (∃ f, bPts c (blk true 0 c) f) ∗ tok c .cp (true, 0, 0))
        ∗ sigNeed m c (some false) (nb false c) (true, 0, 0)
        ∗ gate (duty c .bar (false, 0, 0)) (crd c .bar (false, 0, 0))
        ∗ sigNeed m c (some true) (nb true c) (false, 0, 0)
        ∗ gate (duty c .bar (true, 0, 0)) (crd c .bar (true, 0, 0))
        ∗ sigNeed m c none (pa c) (true, 1, 0)
        ∗ gate (duty c .bar (true, 1, 0)) (crd c .bar (true, 1, 0))) ∗ rest0 m c) := by
  unfold begins toks creds rest0
  refine (Laws.sep_mono (bigSep_mono fun k _ => held_init m c k) (Entails.refl _)).trans ?_
  rw [kinds_split, last_split]
  iintro ⟨⟨HRc, HBar, HX, HT, HF, HS, HC⟩, ⟨Tcp, TF, TT, TP, TS, TG⟩, ⟨CF, CT, CP, CR, CX⟩, HA, ⟨%f, HO⟩⟩
  ihave HA := arg_take $$ HA
  icases HA with ⟨HW, HSrc, HRT, HRF⟩
  ihave HO := (out_take f) $$ HO
  icases HO with ⟨HB, ⟨LF, LT⟩, LP⟩
  isplitl [HBar Tcp TF TT TP CF CT CP HW HB LF LT LP]
  · isplitl [HBar]; · iexact HBar
    isplitl [HW HB Tcp]
    · isplitl [HW]; · iexact HW
      isplitl [HB] <;> iassumption
    isplitl [TF LF]
    · iapply (sig_need false (true, 0, 0) (nb false c) (landRow (nb false c) true) (pay_row true _))
      isplitl [TF] <;> iassumption
    isplitl [CF]; · iexact CF
    isplitl [TT LT]
    · iapply (sig_need true (false, 0, 0) (nb true c) (landRow (nb true c) false) (pay_row false _))
      isplitl [TT] <;> iassumption
    isplitl [CT]; · iexact CT
    isplitl [TP LP]
    · have e : iprop(tok (F := F) (pa c) .bar (true, 1, 0) ∗ landPair (pa c)) = sigNeed m c none (pa c) (true, 1, 0) := by
        unfold sigNeed
        rw [pay_pair]; rfl
      iapply (Entails.of_eq e)
      isplitl [TP] <;> iassumption
    iexact CP
  · isplitl [HRc]
    · have e : (bigSepL steps fun y => Held (F := F) m c (rcv y) (duts c (rcv y)).card) = bigSepL steps fun y => Held m c (rcv y) (duty c (rcv y) y).toNat := by
        congr 1; funext y; rw [card_rcv]
      iapply (Entails.of_eq e)
      iexact HRc
    isplitl [HX HT HF HS HC]
    · isplitl [HX]; · iexact HX
      isplitl [HT]; · iexact HT
      isplitl [HF]; · iexact HF
      isplitl [HS] <;> iassumption
    isplitl [TS]; · iexact TS
    isplitl [TG]; · iexact TG
    isplitl [CR]; · iexact CR
    isplitl [CX]; · iexact CX
    isplitl [HSrc]; · iexact HSrc
    isplitl [HRT] <;> iassumption

/-- Two families under the same conditions, as one. -/
theorem fam_gates (l : List Dt) (b : Dt → Bool) (Φ Ψ : Dt → sProp 𝕄) :
    iprop((bigSepL l fun y => gate (b y) (Φ y)) ∗ bigSepL l fun y => gate (b y) (Ψ y)) ⊢ bigSepL l fun y => gate (b y) (iprop(Φ y ∗ Ψ y)) :=
  (bigSepL_sep' l _ _).trans (bigSepL_mono fun y _ => gate_sep' _ _ _)

theorem A_to_B : iprop((Held (F := F) m c .bar 0 ∗ crd c .cp (true, 0, 0)) ∗ rest0 m c)
    ⊢ iprop((bigSepL (step 0) fun y => gate (sends c y) (iprop(srcPts m c y ∗ sndNeed c y))) ∗ rest1 m c) := by
  unfold rest0 rest1
  iintro ⟨⟨HBar, HCp⟩, HRc, HL, TS, TG, CR, CX, HSrc, HRT, HRF⟩
  ihave HBar := bar_out $$ HBar
  icases HBar with ⟨HBar, LS, LG⟩
  ihave HN := (fam_gates steps (fun y => sends c y) (fun y => oAny (nb y.1 c) (blk y.1 y.2.1.val c) (hb c) y.2.2)
    (fun y => iprop(tok c (.sd y.1) y ∗ tok (nb y.1 c) (rcv y) y))) $$ [LS TS]
  · isplitl [LS] <;> iassumption
  have eN : (bigSepL steps fun y => gate (sends c y) (iprop(oAny (F := F) (nb y.1 c) (blk y.1 y.2.1.val c) (hb c) y.2.2 ∗ tok c (.sd y.1) y ∗ tok (nb y.1 c) (rcv y) y)))
      = bigSepL steps fun y => gate (sends c y) (sndNeed c y) := rfl
  ihave HN := (Entails.of_eq eN) $$ HN
  ihave HN := (fam_next (fun y => gate (sends c y) (sndNeed c y))) $$ HN
  icases HN with ⟨HN0, HNn⟩
  ihave HG := (fam_gates steps (fun y => gets c y) (fun y => oAny (pa c) (blk y.1 (y.2.1.val + 1) c) (hb c) y.2.2)
    (fun y => iprop(tok c .xs y ∗ tok (pa c) .xr y))) $$ [LG TG]
  · isplitl [LG] <;> iassumption
  ihave HSrc := (bigSepL_mono (l := step 0) fun y _ => gate_cut (sends c y) (srcPts m c y)) $$ HSrc
  ihave HSrc := (bigSepL_sep (step 0) _ _) $$ HSrc
  icases HSrc with ⟨HS, HS'⟩
  isplitl [HS HN0]
  · iapply (fam_gates (step 0) (fun y => sends c y) (fun y => srcPts m c y) (fun y => sndNeed c y))
    isplitl [HS] <;> iassumption
  isplitl [HRc]; · iexact HRc
  isplitl [CR]; · iexact CR
  isplitl [HNn]; · iexact HNn
  isplitl [HG]; · iexact HG
  isplitl [HL]; · iexact HL
  isplitl [CX]; · iexact CX
  isplitl [HCp]; · iexact HCp
  isplitl [HBar]; · iexact HBar
  isplitl [HS']; · iexact HS'
  isplitl [HRT] <;> iassumption

theorem B_to_C : iprop((bigSepL (step 0) fun y => gate (sends c y) (crd (F := F) c (.sd y.1) y)) ∗ rest1 m c)
    ⊢ iprop((bigSepL steps fun y => iprop(Held m c (rcv y) (duty c (rcv y) y).toNat ∗ gate (duty c (rcv y) y) (crd c (rcv y) y)
        ∗ (bigSepL (nxtS y) fun y' => gate (sends c y') (sndNeed c y')) ∗ gate (gets c y) (parNeed c y))) ∗ rest2 m c) := by
  unfold rest1 rest2
  iintro ⟨HC0, HRc, CR, HNn, HG, HL, CX, HCp, HBar, HS', HRT, HRF⟩
  isplitl [HRc CR HNn HG]
  · iapply ((Laws.sep_mono (Entails.refl _) ((Laws.sep_mono (Entails.refl _) (bigSepL_sep' steps _ _)).trans (bigSepL_sep' steps _ _))).trans (bigSepL_sep' steps _ _))
    isplitl [HRc]; · iexact HRc
    isplitl [CR]; · iexact CR
    isplitl [HNn] <;> iassumption
  isplitl [HL]; · iexact HL
  isplitl [CX]; · iexact CX
  isplitl [HCp]; · iexact HCp
  isplitl [HC0]; · iexact HC0
  isplitl [HBar]; · iexact HBar
  isplitl [HS']; · iexact HS'
  isplitl [HRT] <;> iassumption

/-- The waits at the end, by semaphore. -/
theorem waits_perm : (steps.map (fun y : Dt => (Kd.xr, y)) ++ (steps.map (fun y : Dt => (Kd.sd y.1, y)) ++ (steps.map (fun y : Dt => (Kd.xs, y)) ++ [(Kd.cp, (true, 0, 0))]))).Perm waits := by
  decide +kernel

theorem waits_fam (Φ : Kd × Dt → sProp 𝕄) : iprop((bigSepL steps fun y => Φ (.xr, y)) ∗ (bigSepL steps fun y => Φ (.sd y.1, y)) ∗ (bigSepL steps fun y => Φ (.xs, y))
    ∗ Φ (.cp, (true, 0, 0))) ⊢ bigSepL waits Φ := by
  refine BIBase.Entails.trans (Entails.of_eq ?_) (bigSepL_perm waits_perm Φ)
  rw [bigSepL_append, bigSepL_append, bigSepL_append, bigSepL_map, bigSepL_map, bigSepL_map, bigSepL_singleton]

theorem C_to_W : iprop((bigSepL steps fun y => iprop(posEnd (F := F) m c (rcv y) ∗ (bigSepL (nxtS y) fun y' => gate (sends c y') (crd c (.sd y'.1) y'))
        ∗ gate (gets c y) (crd c .xs y) ∗ gate (!onward c y) (gate (gets c y) (leftPts m c y)))) ∗ rest2 m c)
    ⊢ iprop(((bigSep lastKd fun k => Held m c k (duts c k).card) ∗ bigSepL waits fun w => gate (duty c w.1 w.2) (crd c w.1 w.2)) ∗ rest3 m c) := by
  unfold rest2 rest3
  iintro ⟨H, HL, CX, HCp, HC0, HBar, HS', HRT, HRF⟩
  ihave H := ((bigSepL_sep steps _ _).trans (Laws.sep_mono (Entails.refl _) ((bigSepL_sep steps _ _).trans (Laws.sep_mono (Entails.refl _) (bigSepL_sep steps _ _))))) $$ H
  icases H with ⟨HE, HCn, HCx, HLeft⟩
  ihave HCs := (fam_next' (fun y => gate (sends c y) (crd c (.sd y.1) y))) $$ [HC0 HCn]
  · isplitl [HC0] <;> iassumption
  isplitl [HL CX HCp HCs HCx]
  · isplitl [HL]; · iexact HL
    iapply (waits_fam (fun w => gate (duty c w.1 w.2) (crd c w.1 w.2)))
    isplitl [CX]; · iexact CX
    isplitl [HCs]
    · have e : (bigSepL steps fun y => gate (sends c y) (crd (F := F) c (.sd y.1) y)) = bigSepL steps fun y => gate (duty c (.sd y.1) y) (crd c (.sd y.1) y) := by
        congr 1; funext y; rw [duty_sd]
      iapply (Entails.of_eq e)
      iexact HCs
    isplitl [HCx]; · iexact HCx
    iapply (gate_intro (duty c .cp (true, 0, 0)) (crd c .cp (true, 0, 0)))
    iexact HCp
  isplitl [HE]; · iexact HE
  isplitl [HLeft]; · iexact HLeft
  isplitl [HBar]; · iexact HBar
  isplitl [HS']; · iexact HS'
  isplitl [HRT] <;> iassumption

/-! ## The end -/

/-- What the sends of one direction read comes back. -/
theorem sd_back (d : Bool) : Held (F := F) m c (.sd d) 0
    ⊢ iprop(posEnd m c (.sd d) ∗ bigSepL steps fun y => gate (decide (y.1 = d)) (gate (sends c y) (srcPts m c y))) := by
  refine (held_zero _).trans (Laws.sep_mono (Entails.refl _) ?_)
  rw [duts_fam]
  refine bigSepL_mono fun y _ => Entails.of_eq ?_
  rw [← gate_and]
  by_cases hy : y.1 = d
  · subst hy; rw [duty_sd, decide_eq_true rfl, Bool.true_and]; rfl
  · have hd : duty c (.sd d) y = false := by
      show (decide (y.1 = d) && has d c && decide (y.2.1.val ≤ room d c)) = false
      rw [decide_eq_false hy]; rfl
    rw [hd, decide_eq_false hy]; rfl

/-- The left share of a chunk that arrived comes back from its send, or was kept. -/
theorem next_join (y : Dt) : iprop((bigSepL (nxtS y) fun y' => gate (sends c y') (srcPts (F := F) m c y')) ∗ gate (!onward c y) (gate (gets c y) (leftPts m c y)))
    ⊢ gate (gets c y) (leftPts m c y) := by
  by_cases h : y.2.1 = 2
  · have ho : onward c y = false := by unfold onward; rw [decide_eq_true h]; exact Bool.and_false _
    rw [ho]
    iintro ⟨-, H⟩
    iexact H
  · have hn : nxtS y = [(y.1, y.2.1 + 1, y.2.2)] := if_neg h
    have ho : onward c y = has y.1 c := by unfold onward; rw [decide_eq_false h]; exact Bool.and_true _
    rw [hn, ho, bigSepL_singleton, sends_next h, srcPts_next h, gate_and]
    exact gate_join _ _

theorem full_join (y : Dt) : iprop(gate (gets c y) (leftPts (F := F) m c y) ∗ gate (gets c y) (pay m c .xs y) ∗ gate (duty c .xr y) (pay m c .xr y))
    ⊢ gate (gets c y) (iprop(oPts c (blk y.1 (y.2.1.val + 1) c) (hb c) y.2.2 fullShare (gold m c) ∗ oPts c (blk y.1 (y.2.1.val + 1) c) (ob c) y.2.2 fullShare (gold m c))) := by
  show iprop(gate (gets c y) _ ∗ gate (gets c y) _ ∗ gate (gets c y) _) ⊢ _
  cases gets c y with
  | false => iintro -; iempintro
  | true =>
    show iprop(leftPts m c y ∗ pay m c .xs y ∗ pay m c .xr y) ⊢ iprop(_ ∗ _)
    unfold leftPts pay
    iintro ⟨H, H', H''⟩
    isplitr [H'']
    · unfold oPts
      iapply (pointsTo_share (PosShare.mem_left_op_right fullShare)).2
      isplitl [H] <;> iassumption
    iexact H''

theorem full_joins : iprop((bigSepL steps fun y => gate (gets c y) (leftPts (F := F) m c y)) ∗ (bigSepL steps fun y => gate (duty c .xs y) (pay m c .xs y))
      ∗ bigSepL steps fun y => gate (duty c .xr y) (pay m c .xr y))
    ⊢ bigSepL steps fun y => gate (gets c y)
      (iprop(oPts c (blk y.1 (y.2.1.val + 1) c) (hb c) y.2.2 fullShare (gold m c) ∗ oPts c (blk y.1 (y.2.1.val + 1) c) (ob c) y.2.2 fullShare (gold m c))) :=
  ((Laws.sep_mono (Entails.refl _) (bigSepL_sep' steps _ _)).trans (bigSepL_sep' steps _ _)).trans (bigSepL_mono fun y _ => full_join y)

theorem cp_back : Held (F := F) m c .cp 0 ⊢ iprop(posEnd m c .cp ∗ bPts c (blk true 0 c) (own m c) ∗ wPts m c fullShare.left) := by
  refine (held_zero _).trans (Laws.sep_mono (Entails.refl _) (Entails.of_eq ?_))
  have hd : duts c .cp = {(true, 0, 0)} := by revert c; decide +kernel
  rw [hd, bigSep_singleton]
  rfl

theorem W_to_end : iprop((bigSep lastKd fun k => Held (F := F) m c k 0) ∗ rest3 m c) ⊢ ends m c := by
  unfold rest3 ends
  rw [kinds_split, last_split]
  iintro ⟨⟨HX, HT, HF, HS, HC⟩, HE, HLeft, HBar, HS', HRT, HRF⟩
  ihave HX := (held_zero .xr) $$ HX
  icases HX with ⟨EX, HX⟩
  ihave HX := (Entails.of_eq (duts_fam (c := c) .xr (pay m c .xr))) $$ HX
  ihave HS := (held_zero .xs) $$ HS
  icases HS with ⟨ES, HS⟩
  ihave HS := (Entails.of_eq (duts_fam (c := c) .xs (pay m c .xs))) $$ HS
  ihave HT := (sd_back true) $$ HT
  icases HT with ⟨ET, HT⟩
  ihave HF := (sd_back false) $$ HF
  icases HF with ⟨EF, HF⟩
  ihave HC := cp_back $$ HC
  icases HC with ⟨EC, HB, HW⟩
  ihave HSrc := ((bigSepL_sep' steps _ _).trans (bigSepL_mono (l := steps) fun y _ => gate_dir y.1 (gate (sends c y) (srcPts m c y)))) $$ [HT HF]
  · isplitl [HT] <;> iassumption
  ihave HSrc := (fam_next (fun y => gate (sends c y) (srcPts m c y))) $$ HSrc
  icases HSrc with ⟨HS0, HSn⟩
  ihave HS0 := ((bigSepL_sep' (step 0) _ _).trans (bigSepL_mono (l := step 0) fun y _ => gate_join (sends c y) (srcPts m c y))) $$ [HS0 HS']
  · isplitl [HS0] <;> iassumption
  ihave HLeft := ((bigSepL_sep' steps _ _).trans (bigSepL_mono (l := steps) fun y _ => next_join (m := m) (c := c) y)) $$ [HSn HLeft]
  · isplitl [HSn] <;> iassumption
  ihave HOut := full_joins (m := m) (c := c) $$ [HLeft HS HX]
  · isplitl [HLeft]; · iexact HLeft
    isplitl [HS] <;> iassumption
  isplitl [HE HBar EX ET EF ES EC]
  · isplitl [HE]; · iexact HE
    isplitl [HBar]; · iexact HBar
    isplitl [EX]; · iexact EX
    isplitl [ET]; · iexact ET
    isplitl [EF]; · iexact EF
    isplitl [ES] <;> iassumption
  isplitl [HW HS0 HRT HRF]
  · iapply arg_give
    isplitl [HW]; · iexact HW
    isplitl [HS0]; · iexact HS0
    isplitl [HRT] <;> iassumption
  iapply out_join
  isplitl [HB] <;> iassumption

/-- The whole program of one device. -/
theorem does_all : Does m K c allOps [] (begins m c) (ends m c) := by
  unfold allOps
  refine Does.pre before_A (Does.seq ((does_A _).frame _) (Does.pre A_to_B (Does.seq ((does_B _).frame _) (Does.pre B_to_C
    (Does.seq ((does_C _).frame _) (Does.pre C_to_W (((does_W _).frame _).post W_to_end)))))))

end Cert.Gather
-- ==== Proof.Deal.lean ====
/-
# What the devices get when they start

The tokens of all contributions, dealt to the devices that make them, and the credits of all that is owed, dealt to the
devices that wait for it.
-/
module

public import proofs.«01_k».proof.Proof.Whole

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

/-! ## Families over the devices -/

/-- A family over devices and a list, in the other order. -/
theorem fam_swap {I : Type} (l : List I) (Φ : Dev nD → I → sProp 𝕄) :
    (bigSep Finset.univ fun c => bigSepL l (Φ c)) = bigSepL l fun y => bigSep Finset.univ fun c => Φ c y := by
  induction l with
  | nil => exact bigSep_emp_const _
  | cons y l ih =>
    rw [bigSepL_cons', ← ih, ← bigSep_sep']
    exact bigSep_congr fun c _ => bigSepL_cons' _ _ _

/-- A family over the devices, counted from the device whose image under `σ` each one is. -/
theorem fam_move (σ : Equiv.Perm (Dev nD)) {b b' : Dev nD → Bool} (h : ∀ c, b c = b' (σ c)) (Φ : Dev nD → sProp 𝕄) :
    (bigSep Finset.univ fun c => gate (b' c) (Φ c)) = bigSep Finset.univ fun c => gate (b c) (Φ (σ c)) := by
  rw [bigSep_univ_equiv σ]
  exact bigSep_congr fun c _ => by rw [h c]

/-- The same for a family over the devices and the contributions. -/
theorem fam_moves (l : List Dt) (σ : Dt → Equiv.Perm (Dev nD)) {b b' : Dev nD → Dt → Bool} (h : ∀ c y, b c y = b' (σ y c) y) (Φ : Dev nD → Dt → sProp 𝕄) :
    (bigSep Finset.univ fun c => bigSepL l fun y => gate (b' c y) (Φ c y)) = bigSep Finset.univ fun c => bigSepL l fun y => gate (b c y) (Φ (σ y c) y) := by
  rw [fam_swap, fam_swap]
  congr 1
  funext y
  exact fam_move (σ y) (fun c => h c y) fun c => Φ c y

/-! ## The tokens -/

/-- The tokens of the contributions to the semaphores of device `c`. -/
def ownToks (c : Dev nD) : sProp 𝕄 := bigSep Finset.univ fun k => bigSep (duts c k) fun y => tok c k y

/-- The tokens of one semaphore, of which one is wanted. -/
theorem duts_at (c : Dev nD) (k : Kd) (y : Dt) (Φ : Dt → sProp 𝕄) : bigSep (duts c k) Φ ⊢ gate (duty c k y) (Φ y) := by
  cases h : duty c k y with
  | true => exact bigSep_elim (mem_duts.mpr h)
  | false => iintro -; iempintro

/-- The three contributions to a barrier semaphore come first. -/
theorem bar_perm : steps.Perm ([(false, 0, 0), (true, 0, 0), (true, 1, 0)] ++ steps.filter fun y : Dt => y ∉ [(false, 0, 0), (true, 0, 0), ((true, 1, 0) : Dt)]) := by
  decide +kernel

theorem bar_toks (c : Dev nD) (Φ : Dt → sProp 𝕄) : bigSep (duts c .bar) Φ
    ⊢ iprop(gate (duty c .bar (false, 0, 0)) (Φ (false, 0, 0)) ∗ gate (duty c .bar (true, 0, 0)) (Φ (true, 0, 0)) ∗ gate (duty c .bar (true, 1, 0)) (Φ (true, 1, 0))) := by
  rw [duts_fam]
  refine (bigSepL_perm bar_perm _).trans ?_
  rw [bigSepL_append, bigSepL_cons', bigSepL_cons', bigSepL_singleton]
  iintro ⟨H, -⟩
  iexact H

theorem sd_toks (c : Dev nD) : iprop(bigSep (duts c (.sd true)) (fun y => tok (F := F) c (.sd true) y) ∗ bigSep (duts c (.sd false)) fun y => tok c (.sd false) y)
    ⊢ bigSepL steps fun y => gate (sends c y) (tok c (.sd y.1) y) := by
  rw [duts_fam, duts_fam]
  refine (bigSepL_sep' steps _ _).trans (bigSepL_mono fun y _ => ?_)
  obtain ⟨d, s, q⟩ := y
  cases d with
  | true => rw [← duty_sd]; iintro ⟨H, -⟩; iexact H
  | false => rw [← duty_sd]; iintro ⟨-, H⟩; iexact H

/-- The tokens of the contributions to the semaphores of device `c`, by semaphore. -/
theorem own_split (c : Dev nD) : ownToks (F := F) c
    ⊢ iprop((bigSepL steps fun y => gate (duty c (rcv y) y) (tok c (rcv y) y))
      ∗ gate (duty c .bar (false, 0, 0)) (tok c .bar (false, 0, 0)) ∗ gate (duty c .bar (true, 0, 0)) (tok c .bar (true, 0, 0))
      ∗ gate (duty c .bar (true, 1, 0)) (tok c .bar (true, 1, 0))
      ∗ (bigSepL steps fun y => gate (duty c .xr y) (tok c .xr y)) ∗ (bigSepL steps fun y => gate (sends c y) (tok c (.sd y.1) y))
      ∗ (bigSepL steps fun y => gate (gets c y) (tok c .xs y)) ∗ tok c .cp (true, 0, 0)) := by
  unfold ownToks
  rw [kinds_split]
  iintro ⟨HRc, HB, HX, HT, HF, HS, HC⟩
  ihave HB := (bar_toks c fun y => tok c .bar y) $$ HB
  icases HB with ⟨B1, B2, B3⟩
  isplitl [HRc]
  · iapply (bigSepL_mono (l := steps) fun y _ => duts_at c (rcv y) y fun y' => tok c (rcv y) y')
    iexact HRc
  isplitl [B1]; · iexact B1
  isplitl [B2]; · iexact B2
  isplitl [B3]; · iexact B3
  isplitl [HX]
  · iapply (Entails.of_eq (duts_fam .xr fun y => tok c .xr y))
    iexact HX
  isplitl [HT HF]
  · iapply (sd_toks c)
    isplitl [HT] <;> iassumption
  isplitl [HS]
  · iapply (Entails.of_eq (duts_fam .xs fun y => tok c .xs y))
    iexact HS
  have e : gate (duty c .cp (true, 0, 0)) (tok (F := F) c .cp (true, 0, 0)) = tok c .cp (true, 0, 0) := rfl
  iapply (Entails.of_eq e)
  iapply (duts_at c .cp (true, 0, 0) fun y => tok c .cp y)
  iexact HC

/-- The tokens of all semaphores are those of all devices' contributions. -/
theorem toks_deal : (bigSep Finset.univ fun c : Dev nD => ownToks (F := F) c) ⊢ bigSep Finset.univ fun c : Dev nD => toks (F := F) c := by
  refine (bigSep_mono fun c _ => own_split c).trans ?_
  rw [bigSep_sep', bigSep_sep', bigSep_sep', bigSep_sep', bigSep_sep', bigSep_sep', bigSep_sep']
  rw [fam_moves steps (fun y => nb y.1) (b := fun c y => sends c y) (b' := fun c y => duty c (rcv y) y) (fun c y => act_pays rfl c) (fun c y => tok c (rcv y) y),
    fam_moves steps (fun _ => pa) (b := fun c y => gets c y) (b' := fun c y => duty c .xr y) (fun c y => act_pays (o := .par y.1 y.2.1 y.2.2) rfl c) (fun c y => tok c .xr y),
    fam_move (nb true) (b := fun c => has true c) (b' := fun c => duty c .bar (false, 0, 0)) (fun c => act_pays (o := .sig (some true)) rfl c) (fun c => tok c .bar (false, 0, 0)),
    fam_move (nb false) (b := fun c => has false c) (b' := fun c => duty c .bar (true, 0, 0)) (fun c => act_pays (o := .sig (some false)) rfl c) (fun c => tok c .bar (true, 0, 0)),
    fam_move pa (b := fun _ => true) (b' := fun c => duty c .bar (true, 1, 0)) (fun c => act_pays (o := .sig none) rfl c) (fun c => tok c .bar (true, 1, 0))]
  rw [← bigSep_sep', ← bigSep_sep', ← bigSep_sep', ← bigSep_sep', ← bigSep_sep', ← bigSep_sep', ← bigSep_sep']
  refine bigSep_mono fun c _ => ?_
  unfold toks
  show iprop(_ ∗ _ ∗ _ ∗ tok (pa c) .bar (true, 1, 0) ∗ _) ⊢ _
  iintro ⟨HRc, HT, HF, HP, HXr, HSd, HXs, HC⟩
  isplitl [HC]; · iexact HC
  isplitl [HF]; · iexact HF
  isplitl [HT]; · iexact HT
  isplitl [HP]; · iexact HP
  isplitl [HRc HSd]
  · iapply (fam_gates steps (fun y => sends c y) (fun y => tok c (.sd y.1) y) (fun y => tok (nb y.1 c) (rcv y) y))
    isplitl [HSd] <;> iassumption
  · iapply (fam_gates steps (fun y => gets c y) (fun y => tok c .xs y) (fun y => tok (pa c) .xr y))
    isplitl [HXs] <;> iassumption

/-! ## The credits -/

/-- What an operation of another device owes to device `c`. -/
def gain (c : Dev nD) (o : Op) : CellTallies nD τ sig Dt :=
  match pays o with
  | some (_, k, y) => if duty c k y = true then tallyAt (cell c k) y (amt k) else 0
  | none => 0

/-- What an operation of all devices owes, by the device that waits for it. -/
theorem term_gain (o : Op) : ∑ c, term c o = ∑ c, gain c o := by
  cases hp : pays o with
  | none =>
    refine Finset.sum_congr rfl fun c _ => ?_
    unfold term gain; rw [hp]
  | some w =>
    obtain ⟨σ, k, y⟩ := w
    rw [← Equiv.sum_comp σ fun c => gain c o]
    refine Finset.sum_congr rfl fun c _ => ?_
    unfold term gain; rw [hp]; dsimp only; rw [act_pays hp c]

/-- What the operations of other devices owe to device `c`. -/
def due (c : Dev nD) (ops : List Op) : CellTallies nD τ sig Dt := (ops.map (gain c)).sum

theorem due_cons (c : Dev nD) (o : Op) (ops : List Op) : due c (o :: ops) = gain c o + due c ops := by
  unfold due; rw [List.map_cons, List.sum_cons]

theorem owed_due (ops : List Op) : ∑ c, owed c ops = ∑ c, due c ops := by
  induction ops with
  | nil => rfl
  | cons o ops ih =>
    rw [Finset.sum_congr rfl fun c _ => owed_cons c o ops, Finset.sum_congr rfl fun c _ => due_cons c o ops, Finset.sum_add_distrib, Finset.sum_add_distrib,
      ih, term_gain, add_comm]

theorem gain_at {c : Dev nD} {o : Op} {g : GSem nD τ sig} (h : gain c o g ≠ 0) : g.1 = (c.tc : Thread nD τ) := by
  unfold gain at h
  cases hp : pays o with
  | none => rw [hp] at h; exact absurd rfl h
  | some w =>
    obtain ⟨σ, k, y⟩ := w
    rw [hp] at h
    dsimp only at h
    by_cases hd : duty c k y = true
    · rw [if_pos hd] at h
      by_contra hg
      refine h (Finsupp.ext fun i => ?_)
      by_contra hi
      exact hg (congrArg Prod.fst (Pipeline.tallyAt_pos (Nat.pos_of_ne_zero hi)).1)
    · rw [if_neg hd] at h; exact absurd rfl h

theorem due_at {c : Dev nD} {ops : List Op} {g : GSem nD τ sig} (h : due c ops g ≠ 0) : g.1 = (c.tc : Thread nD τ) := by
  induction ops with
  | nil => exact absurd rfl h
  | cons o ops ih =>
    by_contra hg
    refine h ?_
    rw [due_cons]
    show gain c o g + due c ops g = 0
    rw [Classical.not_not.mp fun h' => hg (gain_at h'), Classical.not_not.mp fun h' => hg (ih h'), add_zero]

theorem cred_due (c : Dev nD) (ops : List Op) : (cred (due c ops) : sProp 𝕄) ⊢ bigSepL ops fun o => cred (gain c o) := by
  induction ops with
  | nil => iintro -; iempintro
  | cons o ops ih =>
    rw [due_cons, bigSepL_cons']
    exact (cred_add _ _).1.trans (Laws.sep_mono (Entails.refl _) ih)

theorem cred_gain {c : Dev nD} {o : Op} {σ : Equiv.Perm (Dev nD)} {k : Kd} {y : Dt} (h : pays o = some (σ, k, y)) :
    (cred (gain c o) : sProp 𝕄) ⊢ gate (duty c k y) (crd c k y) := by
  unfold gain; rw [h]; dsimp only
  cases hd : duty c k y with
  | true => exact Entails.refl _
  | false => iintro -; iempintro

/-- The operations that raise semaphores of other devices come first. -/
theorem pays_perm : allOps.Perm ([.sig (some true), .sig (some false), .sig none]
    ++ (steps.map (fun y : Dt => Op.snd y.1 y.2.1 y.2.2) ++ (steps.map (fun y : Dt => Op.par y.1 y.2.1 y.2.2) ++ allOps.filter fun o => (pays o).isNone))) := by
  decide +kernel

/-- The credits of all that the devices owe at the start are what each waits for. -/
theorem creds_deal (c : Dev nD) : (Pipeline.launchCred (fun c => owed c allOps) c : sProp 𝕄) ⊢ creds c := by
  rw [Pipeline.launchCred_of_sum (fun c => owed c allOps) (fun c => due c allOps) (owed_due allOps) (fun d g h => due_at h) c]
  refine (cred_due c allOps).trans ((bigSepL_perm pays_perm _).trans ?_)
  unfold creds
  rw [bigSepL_append, bigSepL_append, bigSepL_append, bigSepL_map, bigSepL_map, bigSepL_cons', bigSepL_cons', bigSepL_singleton]
  iintro ⟨⟨HT, HF, HP⟩, HS, HX, -⟩
  isplitl [HT]; · iapply (cred_gain (o := .sig (some true)) rfl); iexact HT
  isplitl [HF]; · iapply (cred_gain (o := .sig (some false)) rfl); iexact HF
  isplitl [HP]; · iapply (cred_gain (o := .sig none) rfl); iexact HP
  isplitl [HS]
  · iapply (bigSepL_mono (l := steps) fun y _ => cred_gain (c := c) (o := .snd y.1 y.2.1 y.2.2) rfl)
    iexact HS
  · iapply (bigSepL_mono (l := steps) fun y _ => cred_gain (c := c) (o := .par y.1 y.2.1 y.2.2) rfl)
    iexact HX

end Cert.Gather
-- ==== Proof.Parts.lean ====
/-
# What each part of the program does

The printed body is nineteen parts in sequence. Part by part, the operations the part performs: every conditional of the program
holds exactly on the devices that perform its operation, and its effect is that operation.
-/
module

public import proofs.«01_k».proof.Proof.Text

@[expose] public section

noncomputable section

namespace Cert.Gather

open Cert.KernelIdeal Cert.KernelIdeal.Gen
open Idealize.ShloMosaic Idealize.SL.Sem

variable {F : FTy → Type} [FloatOps F]
variable (c : Dev nD)

/-- What part 1 of the program does: the local copy and the signals. -/
theorem ends_part1 :
    Ends (F := F) c [.cpy, .sig (some false), .wait .bar (false, 0, 0), .sig (some true), .wait .bar (true, 0, 0), .sig none]
      (k0_part1 aM (Memref.isWhole_whole _) oM (Memref.isWhole_whole _) cc0_scratch0 cc0_scratch1 cc0_scratch2 cc0_scratch3 cc0_scratch4
      cc0_scratch5 cc0_scratch6)
      (fun t => t.1 = c ∧ t.2.2.2.2.2.2.2.2.2.2.2 = SemArray.scalar (sig.barrier 0 rfl)) := by
  rw [k0_part1_eq_skeleton]
  unfold k0_part1_skel
  refine Ends.dev ?_
  refine Ends.always (by decide) (isOp_cpy c) ?_
  refine Ends.sync ?_
  refine Ends.sync ?_
  refine Ends.always (by decide) (isOp_sig c) ?_
  exact .done ⟨rfl, rfl⟩

/-- What part 2 of the program does. -/
theorem ends_part2 (v2 v5 v8 v9 : BitVec 32) (v12 v13 : BitVec 1) (v15 v16 : BitVec 32) :
    Ends (F := F) c [.wait .bar (true, 1, 0), .snd true 0 0, .snd false 0 0, .snd true 0 1, .snd false 0 1, .snd true 0 2, .snd false 0 2,
      .snd true 0 3, .snd false 0 3, .wait (.rc true 0 0) (true, 0, 0)]
      (k0_part2 aM (Memref.isWhole_whole _) oM (Memref.isWhole_whole _) cc0_scratch0 cc0_scratch1 cc0_scratch2 cc0_scratch3 cc0_scratch4
      cc0_scratch5 cc0_scratch6
        c v2 v5 v8 v9 v12 v13 v15 v16 (SemArray.scalar (sig.barrier 0 rfl))) (fun _ => True) := by
  rw [k0_part2_eq_skeleton]
  unfold k0_part2_skel
  refine Ends.always (by decide) rfl ?_
  repeat (first | refine Ends.wait ?_ | refine Ends.own ?_)
  exact .done trivial

/-- What part 3 of the program does. -/
theorem ends_part3 (v2 v5 v8 v9 : BitVec 32) (v12 v13 : BitVec 1) (v14 v15 v16 v47 v49 : BitVec 32) (v50 v51 v60 : BitVec 1) :
    Ends (F := F) c [.snd true 1 0, .par true 0 0, .wait (.rc false 0 0) (false, 0, 0), .snd false 1 0, .par false 0 0,
      .wait (.rc true 0 1) (true, 0, 1), .snd true 1 1, .par true 0 1, .wait (.rc false 0 1) (false, 0, 1), .snd false 1 1,
      .par false 0 1]
      (k0_part3 aM (Memref.isWhole_whole _) oM (Memref.isWhole_whole _) cc0_scratch0 cc0_scratch1 cc0_scratch2 cc0_scratch3 cc0_scratch4
      cc0_scratch5 cc0_scratch6
        c v2 v5 v8 v9 v12 v13 v14 v15 v16 v47 v49 v50 v51 v60) (fun _ => True) := by
  rw [k0_part3_eq_skeleton]
  unfold k0_part3_skel
  repeat (first | refine Ends.wait ?_ | refine Ends.fwd ?_ | refine Ends.par ?_)
  exact .done trivial

/-- What part 4 of the program does. -/
theorem ends_part4 (v2 v5 v8 v9 : BitVec 32) (v12 v13 : BitVec 1) (v14 v15 v16 v47 v49 : BitVec 32) (v50 v51 : BitVec 1) (v93 : BitVec 32) :
    Ends (F := F) c [.wait (.rc true 0 2) (true, 0, 2), .snd true 1 2, .par true 0 2, .wait (.rc false 0 2) (false, 0, 2), .snd false 1 2,
      .par false 0 2, .wait (.rc true 0 3) (true, 0, 3), .snd true 1 3, .par true 0 3, .wait (.rc false 0 3) (false, 0, 3)]
      (k0_part4 aM (Memref.isWhole_whole _) oM (Memref.isWhole_whole _) cc0_scratch0 cc0_scratch1 cc0_scratch2 cc0_scratch3 cc0_scratch4
      cc0_scratch5 cc0_scratch6
        c v2 v5 v8 v9 v12 v13 v14 v15 v16 v47 v49 v50 v51 v93) (fun _ => True) := by
  rw [k0_part4_eq_skeleton]
  unfold k0_part4_skel
  repeat (first | refine Ends.wait ?_ | refine Ends.fwd ?_ | refine Ends.par ?_)
  exact .done trivial

/-- What part 5 of the program does. -/
theorem ends_part5 (v2 v5 v8 v9 : BitVec 32) (v12 v13 : BitVec 1) (v14 v15 v16 : BitVec 32) (v51 : BitVec 1) :
    Ends (F := F) c [.snd false 1 3, .par false 0 3, .wait (.rc true 1 0) (true, 1, 0), .snd true 2 0, .par true 1 0,
      .wait (.rc false 1 0) (false, 1, 0), .snd false 2 0, .par false 1 0]
      (k0_part5 aM (Memref.isWhole_whole _) oM (Memref.isWhole_whole _) cc0_scratch0 cc0_scratch1 cc0_scratch2 cc0_scratch3 cc0_scratch4
      cc0_scratch5 cc0_scratch6
        c v2 v5 v8 v9 v12 v13 v14 v15 v16 v51) (fun _ => True) := by
  rw [k0_part5_eq_skeleton]
  unfold k0_part5_skel
  repeat (first | refine Ends.wait ?_ | refine Ends.fwd ?_ | refine Ends.par ?_)
  exact .done trivial

/-- What part 6 of the program does. -/
theorem ends_part6 (v2 v5 v8 v9 : BitVec 32) (v12 v13 : BitVec 1) (v14 v15 v16 v133 v135 : BitVec 32) (v136 v137 : BitVec 1) (v159 : BitVec 32) :
    Ends (F := F) c [.wait (.rc true 1 1) (true, 1, 1), .snd true 2 1, .par true 1 1, .wait (.rc false 1 1) (false, 1, 1), .snd false 2 1,
      .par false 1 1, .wait (.rc true 1 2) (true, 1, 2), .snd true 2 2, .par true 1 2, .wait (.rc false 1 2) (false, 1, 2)]
      (k0_part6 aM (Memref.isWhole_whole _) oM (Memref.isWhole_whole _) cc0_scratch0 cc0_scratch1 cc0_scratch2 cc0_scratch3 cc0_scratch4
      cc0_scratch5 cc0_scratch6
        c v2 v5 v8 v9 v12 v13 v14 v15 v16 v133 v135 v136 v137 v159) (fun _ => True) := by
  rw [k0_part6_eq_skeleton]
  unfold k0_part6_skel
  repeat (first | refine Ends.wait ?_ | refine Ends.fwd ?_ | refine Ends.par ?_)
  exact .done trivial

/-- What part 7 of the program does. -/
theorem ends_part7 (v2 v5 v8 v9 : BitVec 32) (v12 v13 : BitVec 1) (v14 v15 v16 v133 v135 : BitVec 32) (v136 v137 : BitVec 1) :
    Ends (F := F) c [.snd false 2 2, .par false 1 2, .wait (.rc true 1 3) (true, 1, 3), .snd true 2 3, .par true 1 3,
      .wait (.rc false 1 3) (false, 1, 3), .snd false 2 3, .par false 1 3]
      (k0_part7 aM (Memref.isWhole_whole _) oM (Memref.isWhole_whole _) cc0_scratch0 cc0_scratch1 cc0_scratch2 cc0_scratch3 cc0_scratch4
      cc0_scratch5 cc0_scratch6
        c v2 v5 v8 v9 v12 v13 v14 v15 v16 v133 v135 v136 v137) (fun _ => True) := by
  rw [k0_part7_eq_skeleton]
  unfold k0_part7_skel
  repeat (first | refine Ends.wait ?_ | refine Ends.fwd ?_ | refine Ends.par ?_)
  exact .done trivial

/-- What part 8 of the program does. -/
theorem ends_part8 (v2 v5 v8 v9 v14 v219 v221 : BitVec 32) (v222 v223 : BitVec 1) (v225 : BitVec 32) :
    Ends (F := F) c [.wait (.rc true 2 0) (true, 2, 0), .par true 2 0, .wait (.rc false 2 0) (false, 2, 0), .par false 2 0,
      .wait (.rc true 2 1) (true, 2, 1), .par true 2 1, .wait (.rc false 2 1) (false, 2, 1), .par false 2 1]
      (k0_part8 aM (Memref.isWhole_whole _) oM (Memref.isWhole_whole _) cc0_scratch0 cc0_scratch1 cc0_scratch2 cc0_scratch3 cc0_scratch4
      cc0_scratch5 cc0_scratch6
        c v2 v5 v8 v9 v14 v219 v221 v222 v223 v225) (fun _ => True) := by
  rw [k0_part8_eq_skeleton]
  unfold k0_part8_skel
  repeat (first | refine Ends.wait ?_ | refine Ends.par ?_)
  exact .done trivial

/-- What part 9 of the program does. -/
theorem ends_part9 (v2 v5 v8 v9 v11 v14 v219 v221 : BitVec 32) (v222 v223 : BitVec 1) (v258 : BitVec 32) :
    Ends (F := F) c [.wait (.rc true 2 2) (true, 2, 2), .par true 2 2, .wait (.rc false 2 2) (false, 2, 2), .par false 2 2,
      .wait (.rc true 2 3) (true, 2, 3), .par true 2 3, .wait (.rc false 2 3) (false, 2, 3), .par false 2 3]
      (k0_part9 aM (Memref.isWhole_whole _) oM (Memref.isWhole_whole _) cc0_scratch0 cc0_scratch1 cc0_scratch2 cc0_scratch3 cc0_scratch4
      cc0_scratch5 cc0_scratch6
        c v2 v5 v8 v9 v11 v14 v219 v221 v222 v223 v258) (fun _ => True) := by
  rw [k0_part9_eq_skeleton]
  unfold k0_part9_skel
  repeat (first | refine Ends.wait ?_ | refine Ends.par ?_)
  exact .done trivial

/-- What part 10 of the program does. -/
theorem ends_part10 (v5 v8 v11 v14 v281 v283 : BitVec 32) (v284 v285 : BitVec 1) (v289 c0_i32_159 : BitVec 32) :
    Ends (F := F) c [.wait .xr (true, 0, 0), .wait .xr (false, 0, 0), .wait .xr (true, 0, 1), .wait .xr (false, 0, 1), .wait .xr (true, 0, 2),
      .wait .xr (false, 0, 2), .wait .xr (true, 0, 3)]
      (k0_part10 aM (Memref.isWhole_whole _) oM (Memref.isWhole_whole _) cc0_scratch0 cc0_scratch1 cc0_scratch2 cc0_scratch3 cc0_scratch4
      cc0_scratch5 cc0_scratch6
        c v5 v8 v11 v14 v281 v283 v284 v285 v289 c0_i32_159) (fun _ => True) := by
  rw [k0_part10_eq_skeleton]
  unfold k0_part10_skel
  repeat (refine Ends.wait ?_)
  exact .done trivial

/-- What part 11 of the program does. -/
theorem ends_part11 (v5 v8 v11 v14 : BitVec 32) (v285 : BitVec 1) (v322 c6144_i32_179 : BitVec 32) :
    Ends (F := F) c [.wait .xr (false, 0, 3), .wait .xr (true, 1, 0), .wait .xr (false, 1, 0), .wait .xr (true, 1, 1), .wait .xr (false, 1, 1)]
      (k0_part11 aM (Memref.isWhole_whole _) oM (Memref.isWhole_whole _) cc0_scratch0 cc0_scratch1 cc0_scratch2 cc0_scratch3 cc0_scratch4
      cc0_scratch5 cc0_scratch6
        c v5 v8 v11 v14 v285 v322 c6144_i32_179) (fun _ => True) := by
  rw [k0_part11_eq_skeleton]
  unfold k0_part11_skel
  repeat (refine Ends.wait ?_)
  exact .done trivial

/-- What part 12 of the program does. -/
theorem ends_part12 (v5 v8 v11 v14 v327 v329 : BitVec 32) (v330 v331 : BitVec 1) (v355 c0_i32_201 : BitVec 32) :
    Ends (F := F) c [.wait .xr (true, 1, 2), .wait .xr (false, 1, 2), .wait .xr (true, 1, 3), .wait .xr (false, 1, 3), .wait .xr (true, 2, 0),
      .wait .xr (false, 2, 0)]
      (k0_part12 aM (Memref.isWhole_whole _) oM (Memref.isWhole_whole _) cc0_scratch0 cc0_scratch1 cc0_scratch2 cc0_scratch3 cc0_scratch4
      cc0_scratch5 cc0_scratch6
        c v5 v8 v11 v14 v327 v329 v330 v331 v355 c0_i32_201) (fun _ => True) := by
  rw [k0_part12_eq_skeleton]
  unfold k0_part12_skel
  repeat (refine Ends.wait ?_)
  exact .done trivial

/-- What part 13 of the program does. -/
theorem ends_part13 (v5 v8 v9 v11 : BitVec 32) (v12 v13 : BitVec 1) (v14 v373 v375 : BitVec 32) (v376 v377 : BitVec 1) (c16384_i32_223 : BitVec 32) :
    Ends (F := F) c [.wait .xr (true, 2, 1), .wait .xr (false, 2, 1), .wait .xr (true, 2, 2), .wait .xr (false, 2, 2), .wait .xr (true, 2, 3),
      .wait .xr (false, 2, 3), .wait (.sd true) (true, 0, 0)]
      (k0_part13 aM (Memref.isWhole_whole _) oM (Memref.isWhole_whole _) cc0_scratch0 cc0_scratch1 cc0_scratch2 cc0_scratch3 cc0_scratch4
      cc0_scratch5 cc0_scratch6
        c v5 v8 v9 v11 v12 v13 v14 v373 v375 v376 v377 c16384_i32_223) (fun _ => True) := by
  rw [k0_part13_eq_skeleton]
  unfold k0_part13_skel
  repeat (refine Ends.wait ?_)
  exact .done trivial

/-- What part 14 of the program does. -/
theorem ends_part14 (v8 v9 : BitVec 32) (v12 v13 : BitVec 1) :
    Ends (F := F) c [.wait (.sd false) (false, 0, 0), .wait (.sd true) (true, 0, 1), .wait (.sd false) (false, 0, 1),
      .wait (.sd true) (true, 0, 2), .wait (.sd false) (false, 0, 2), .wait (.sd true) (true, 0, 3),
      .wait (.sd false) (false, 0, 3), .wait (.sd true) (true, 1, 0), .wait (.sd false) (false, 1, 0)]
      (k0_part14 aM (Memref.isWhole_whole _) oM (Memref.isWhole_whole _) cc0_scratch0 cc0_scratch1 cc0_scratch2 cc0_scratch3 cc0_scratch4
      cc0_scratch5 cc0_scratch6
        c v8 v9 v12 v13) (fun _ => True) := by
  rw [k0_part14_eq_skeleton]
  unfold k0_part14_skel
  repeat (refine Ends.wait ?_)
  exact .done trivial

/-- What part 15 of the program does. -/
theorem ends_part15 (v9 : BitVec 32) (v12 v13 : BitVec 1) (v435 v437 : BitVec 32) (v438 v439 : BitVec 1) :
    Ends (F := F) c [.wait .xs (true, 0, 0), .wait .xs (false, 0, 0), .wait (.sd true) (true, 1, 1), .wait (.sd false) (false, 1, 1),
      .wait .xs (true, 0, 1), .wait .xs (false, 0, 1), .wait (.sd true) (true, 1, 2), .wait (.sd false) (false, 1, 2),
      .wait .xs (true, 0, 2)]
      (k0_part15 aM (Memref.isWhole_whole _) oM (Memref.isWhole_whole _) cc0_scratch0 cc0_scratch1 cc0_scratch2 cc0_scratch3 cc0_scratch4
      cc0_scratch5 cc0_scratch6
        c v9 v12 v13 v435 v437 v438 v439) (fun _ => True) := by
  rw [k0_part15_eq_skeleton]
  unfold k0_part15_skel
  repeat (refine Ends.wait ?_)
  exact .done trivial

/-- What part 16 of the program does. -/
theorem ends_part16 (v8 v9 : BitVec 32) (v12 v13 : BitVec 1) (v435 v437 : BitVec 32) (v438 v439 : BitVec 1) :
    Ends (F := F) c [.wait .xs (false, 0, 2), .wait (.sd true) (true, 1, 3), .wait (.sd false) (false, 1, 3), .wait .xs (true, 0, 3),
      .wait .xs (false, 0, 3), .wait (.sd true) (true, 2, 0)]
      (k0_part16 aM (Memref.isWhole_whole _) oM (Memref.isWhole_whole _) cc0_scratch0 cc0_scratch1 cc0_scratch2 cc0_scratch3 cc0_scratch4
      cc0_scratch5 cc0_scratch6
        c v8 v9 v12 v13 v435 v437 v438 v439) (fun _ => True) := by
  rw [k0_part16_eq_skeleton]
  unfold k0_part16_skel
  repeat (refine Ends.wait ?_)
  exact .done trivial

/-- What part 17 of the program does. -/
theorem ends_part17 (v9 : BitVec 32) (v12 v13 : BitVec 1) (v505 v507 : BitVec 32) (v508 v509 : BitVec 1) :
    Ends (F := F) c [.wait (.sd false) (false, 2, 0), .wait .xs (true, 1, 0), .wait .xs (false, 1, 0), .wait (.sd true) (true, 2, 1),
      .wait (.sd false) (false, 2, 1), .wait .xs (true, 1, 1), .wait .xs (false, 1, 1), .wait (.sd true) (true, 2, 2),
      .wait (.sd false) (false, 2, 2)]
      (k0_part17 aM (Memref.isWhole_whole _) oM (Memref.isWhole_whole _) cc0_scratch0 cc0_scratch1 cc0_scratch2 cc0_scratch3 cc0_scratch4
      cc0_scratch5 cc0_scratch6
        c v9 v12 v13 v505 v507 v508 v509) (fun _ => True) := by
  rw [k0_part17_eq_skeleton]
  unfold k0_part17_skel
  repeat (refine Ends.wait ?_)
  exact .done trivial

/-- What part 18 of the program does. -/
theorem ends_part18 (v8 v9 : BitVec 32) (v12 v13 : BitVec 1) (v505 v507 : BitVec 32) (v508 v509 : BitVec 1) :
    Ends (F := F) c [.wait .xs (true, 1, 2), .wait .xs (false, 1, 2), .wait (.sd true) (true, 2, 3), .wait (.sd false) (false, 2, 3),
      .wait .xs (true, 1, 3), .wait .xs (false, 1, 3), .wait .xs (true, 2, 0)]
      (k0_part18 aM (Memref.isWhole_whole _) oM (Memref.isWhole_whole _) cc0_scratch0 cc0_scratch1 cc0_scratch2 cc0_scratch3 cc0_scratch4
      cc0_scratch5 cc0_scratch6
        c v8 v9 v12 v13 v505 v507 v508 v509) (fun _ => True) := by
  rw [k0_part18_eq_skeleton]
  unfold k0_part18_skel
  repeat (refine Ends.wait ?_)
  exact .done trivial

/-- What part 19 of the program does. -/
theorem ends_part19 (v9 v575 v577 : BitVec 32) (v578 v579 : BitVec 1) (v588 : BitVec 32) :
    Ends (F := F) c [.wait .xs (false, 2, 0), .wait .xs (true, 2, 1), .wait .xs (false, 2, 1), .wait .xs (true, 2, 2), .wait .xs (false, 2, 2),
      .wait .xs (true, 2, 3), .wait .xs (false, 2, 3), .wait .cp (true, 0, 0)]
      (k0_part19 aM (Memref.isWhole_whole _) oM (Memref.isWhole_whole _) cc0_scratch0 cc0_scratch1 cc0_scratch2 cc0_scratch3 cc0_scratch4
      cc0_scratch5 cc0_scratch6
        c v9 v575 v577 v578 v579 v588) (fun _ => True) := by
  rw [k0_part19_eq_skeleton]
  unfold k0_part19_skel
  repeat (refine Ends.wait ?_)
  refine Ends.always (by decide) ⟨_, _, _, _, _, _, rfl, rfl, rfl⟩ ?_
  exact .done trivial

/-- The whole program performs the operations. -/
theorem ends_body : Ends (F := F) c allOps
    (cc0_body aM (Memref.isWhole_whole _) oM (Memref.isWhole_whole _) cc0_scratch0 cc0_scratch1 cc0_scratch2 cc0_scratch3 cc0_scratch4
      cc0_scratch5 cc0_scratch6) (fun _ => True) := by
  rw [cc0_body_eq_skeleton]
  unfold cc0_body_skel
  refine Ends.first (ends_part1 c) ?_
  rintro ⟨d, v2, v5, v8, v9, v11, v12, v13, v14, v15, v16, v19⟩ ⟨h, h'⟩
  obtain rfl : d = c := h
  obtain rfl : v19 = _ := h'
  refine Ends.first (ends_part2 _ ..) ?_
  rintro ⟨v47, v49, v50, v51, v60⟩ -
  refine Ends.first (ends_part3 _ ..) fun v93 _ => ?_
  refine Ends.first (ends_part4 _ ..) fun _ _ => ?_
  refine Ends.first (ends_part5 _ ..) ?_
  rintro ⟨v133, v135, v136, v137, v159⟩ -
  refine Ends.first (ends_part6 _ ..) fun _ _ => ?_
  refine Ends.first (ends_part7 _ ..) ?_
  rintro ⟨v219, v221, v222, v223, v225⟩ -
  refine Ends.first (ends_part8 _ ..) fun v258 _ => ?_
  refine Ends.first (ends_part9 _ ..) ?_
  rintro ⟨v281, v283, v284, v285, v289, w⟩ -
  refine Ends.first (ends_part10 _ ..) ?_
  rintro ⟨v322, w'⟩ -
  refine Ends.first (ends_part11 _ ..) ?_
  rintro ⟨v327, v329, v330, v331, v355, w''⟩ -
  refine Ends.first (ends_part12 _ ..) ?_
  rintro ⟨v373, v375, v376, v377, u⟩ -
  refine Ends.first (ends_part13 _ ..) fun _ _ => ?_
  refine Ends.first (ends_part14 _ ..) ?_
  rintro ⟨v435, v437, v438, v439⟩ -
  refine Ends.first (ends_part15 _ ..) fun _ _ => ?_
  refine Ends.first (ends_part16 _ ..) ?_
  rintro ⟨v505, v507, v508, v509⟩ -
  refine Ends.first (ends_part17 _ ..) fun _ _ => ?_
  refine Ends.first (ends_part18 _ ..) ?_
  rintro ⟨v575, v577, v578, v579, v588⟩ -
  refine Ends.first (ends_part19 _ ..) fun _ _ => ?_
  exact .done trivial

end Cert.Gather
-- ==== Proof.Run.lean ====
/-
# The kernel run by one device

The body of the kernel, from what a device starts with to the result and all of its semaphores at zero.
-/
module

public import proofs.«01_k».proof.Proof.Deal
public import proofs.«01_k».proof.Proof.Parts
public import proofs.«01_k».proof.Proof.Gen.KernelIdeal.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable (m : (ℓ : Loc nD τ sig) → Buf (Elt F) ℓ)

/-! ## Closing the semaphores -/

/-- A persistent proposition beside a family is beside every member. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- After its last wait a semaphore is at zero. -/
theorem close_one (K : Dev nD × Kd → ℕ) (c : Dev nD) (k : Kd) :
    iprop(recs m K ∗ posEnd (F := F) m c k) ⊢ |={Set.univ}=> semVal (cell c k) 0 := by
  unfold posEnd
  iintro ⟨#HR, %R, %hR, Hat⟩
  imod (Rounds.cell_close ER (sch m) (Set.mem_univ (K (c, k))) (fun h => h) (R := R) hR) $$ [Hat] with Hz
  · isplitr; · iapply (recs_inv m K c k); iexact HR
    iexact Hat
  imodintro
  iexact Hz

theorem close_all (K : Dev nD × Kd → ℕ) (c : Dev nD) :
    iprop(recs m K ∗ bigSep Finset.univ fun k => posEnd (F := F) m c k) ⊢ |={Set.univ}=> bigSep Finset.univ fun k => semVal (cell c k) 0 :=
  (bigSep_beside fun k _ => close_one m K c k).trans (bigSep_fupd _ _)

/-! ## The body -/

/-- What device `c` starts with, beside what it owes. -/
def start (c : Dev nD) : sProp 𝕄 := iprop((∃ K, recs m K) ∗ levAts L lv ∗ begins m c)

/-- What device `c` ends with. -/
def done (c : Dev nD) : sProp 𝕄 :=
  iprop((bigSep Finset.univ fun k => semVal (cell c k) 0)
    ∗ ((c : Thread nD τ).loc main_arg0 ↦{fullShare} m ((c : Thread nD τ).loc main_arg0))
    ∗ ((c : Thread nD τ).loc main_v1 ↦{fullShare} result m c))

/-- The program of one device runs, and ends with the result, all its semaphores at zero and nothing owed. -/
theorem body_run (c : Dev nD) : iprop(start (F := F) m c ∗ owesE c (owed c allOps))
    ⊢ wpc c (cc0_body aM (Memref.isWhole_whole _) oM (Memref.isWhole_whole _) cc0_scratch0 cc0_scratch1 cc0_scratch2 cc0_scratch3 cc0_scratch4
        cc0_scratch5 cc0_scratch6) fun _ => iprop(done m c ∗ owesE c 0) := by
  obtain ⟨⟨⟩, -, hr⟩ := ends_body (F := F) c
  have hok : ok c (allOps ++ []) = true := by rw [List.append_nil]; exact ok_all c
  unfold start
  iintro ⟨⟨⟨%K, #HR⟩, HL, HB⟩, HO⟩
  iapply (does_all (m := m) (K := K) (c := c) hok _ _ hr _) $$ [HL HB HO]
  · isplitl [HL]
    · unfold ctx; isplitr; · iexact HR
      iexact HL
    isplitl [HB]; · iexact HB
    have e : owesE (F := F) c (owed c allOps) = owesE c (owed c (allOps ++ [])) := by rw [List.append_nil]
    iapply (Entails.of_eq e)
    iexact HO
  unfold ends
  iintro ⟨⟨HP, HA, HV⟩, HO⟩
  unfold wpc
  rw [wp_ret]
  imod (close_all m K c) $$ [HP] with HZ
  · isplitr; · iexact HR
    iexact HP
  imodintro
  isplitl [HZ HA HV]
  · unfold done
    isplitl [HZ]; · iexact HZ
    isplitl [HA] <;> iassumption
  iexact HO

/-- What is said of one device for the launch. -/
def dats (_ : Fin 1) (c : Dev nD) : Pipeline.Dat τ (Elt F) Dt ℕ UU ℕ cfg0 c where
  A w := w.elim0
  after w _ := w.elim0
  Φ t := match t with
    | ⟨0, _⟩ => start m c
    | ⟨_ + 1, _⟩ => done m c
  q _ := fullShare
  owed t := match t with
    | ⟨0, _⟩ => owed c allOps
    | ⟨_ + 1, _⟩ => 0

theorem bigSep_none {M : Type} [URA M] (Φ : Fin 0 → sProp M) : bigSep Finset.univ Φ = BI.emp := rfl

theorem body_obligation (c : Dev nD) : Pipeline.BodyObligation (dats (F := F) m 0 c) (defs₀ (F := F)) 𝒱₀ (true, 0, 0) Set.univ := fun t => by
  rw [fin_N0 t]
  rw [bigSep_none, bigSep_none]
  refine BIBase.Entails.trans ?_ ((body_run m c).trans (wp_mono _ _ _ fun _ => ?_))
  · show iprop(start m c ∗ (∃ W, ⌜_⌝ ∗ owes (c : Thread nD τ) (owed c allOps) W) ∗ emp) ⊢ _
    unfold owesE
    iintro ⟨HS, ⟨%W, -, HO⟩, -⟩
    isplitl [HS]; · iexact HS
    iexists W; iexact HO
  · show _ ⊢ iprop(done m c ∗ (∃ W, ⌜_⌝ ∗ owes (c : Thread nD τ) 0 W) ∗ emp)
    unfold owesE
    iintro ⟨HS, ⟨%W, HO⟩⟩
    isplitl [HS]; · iexact HS
    isplitl [HO]
    · iexists W
      isplitr; · ipureintro; exact fun _ _ => Or.inl trivial
      iexact HO
    iempintro

end Cert.Gather
-- ==== Proof.Launch.lean ====
/-
# The launch

What every device gets at the start, from the launch, and the run of the whole mesh.
-/
module

public import proofs.«01_k».proof.Proof.Run
public import Idealize.ShloMosaic.Lib.Pipeline.KitQuiescent

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Dt (Elt F) ℕ UU ℕ

variable (m : (ℓ : Loc nD τ sig) → Buf (Elt F) ℓ) (ρ : Dev nD → PrngReg)

/-! ## The semaphores of the launch -/

/-- The semaphores of the kernel's own: all but the barrier's. -/
def ownKd : List Kd := steps.map (fun y : Dt => rcv y) ++ [.xr, .sd true, .sd false, .xs, .cp]

/-- Their places. -/
def osem (i : Fin 29) : SemLoc sig := sem (ownKd.getD i.val .cp)

theorem ownSemFacts : Pipeline.OwnSemFacts cfg0.spec osem := by decide +kernel

theorem ownKd_fin : (List.finRange 29).map (fun i : Fin 29 => ownKd.getD i.val .cp) = ownKd := by decide +kernel

theorem swap_last (A B C : sProp 𝕄) : iprop(A ∗ B ∗ C) ⊢ iprop((A ∗ C) ∗ B) := by
  iintro ⟨H1, H2, H3⟩
  isplitl [H1 H3]
  · isplitl [H1] <;> iassumption
  iexact H2

theorem swap_last' (A B C : sProp 𝕄) : iprop((A ∗ C) ∗ B) ⊢ iprop(A ∗ B ∗ C) := by
  iintro ⟨⟨H1, H3⟩, H2⟩
  isplitl [H1]; · iexact H1
  isplitl [H2] <;> iassumption

/-- A family over all semaphores: the kernel's own and the barrier's. -/
theorem kinds_own (Φ : Kd → sProp 𝕄) : bigSep Finset.univ Φ = iprop((bigSep Finset.univ fun i : Fin 29 => Φ (ownKd.getD i.val .cp)) ∗ Φ .bar) := by
  rw [bigSep_univ_eq_bigSepL (List.finRange 29) (by decide +kernel) (by decide +kernel),
    ← bigSepL_map (fun i : Fin 29 => ownKd.getD i.val .cp) (List.finRange 29) Φ, ownKd_fin, kinds_split]
  unfold ownKd
  rw [bigSepL_append, bigSepL_map, bigSepL_cons', bigSepL_cons', bigSepL_cons', bigSepL_cons', bigSepL_singleton]
  exact BI.Entails.antisymm (swap_last _ _ _) (swap_last' _ _ _)

theorem unscopedSems0_eq (c : Dev nD) : (unscopedSems0 c : sProp 𝕄) = semVal (cell c .bar) 0 := by
  unfold unscopedSems0; rw [bigSep_eq_bigSepL_of_eq [SemLoc.reg barS] (by decide +kernel) (by decide +kernel)]; rfl

theorem sems0_eq (c : Dev nD) : (bigSep Finset.univ fun k => semVal (cell c k) 0 : sProp 𝕄) = iprop(Pipeline.ownSems0 osem c ∗ unscopedSems0 c) := by
  rw [kinds_own, unscopedSems0_eq]; rfl

/-! ## What the launch deals -/

theorem cells_inj : Function.Injective fun ck : Dev nD × Kd => cell ck.1 ck.2 := by
  rintro ⟨c, k⟩ ⟨c', k'⟩ h
  obtain ⟨rfl, rfl⟩ := cell_inj h
  rfl

/-- All semaphores of all devices. -/
def cells : Finset (GSem nD τ sig) := Finset.univ.map ⟨fun ck : Dev nD × Kd => cell ck.1 ck.2, cells_inj⟩

theorem names_inj : Function.Injective fun x : (Dev nD × Kd) × Dt => ((cell x.1.1 x.1.2, 0, x.2) : GSem nD τ sig × ℕ × Dt) := by
  rintro ⟨ck, y⟩ ⟨ck', y'⟩ h
  have h₁ : ck = ck' := cells_inj (congrArg Prod.fst h)
  have h₂ : y = y' := congrArg (fun z : GSem nD τ sig × ℕ × Dt => z.2.2) h
  rw [h₁, h₂]

/-- All contributions to them. -/
def names : Finset (GSem nD τ sig × ℕ × Dt) :=
  (Finset.univ.filter fun x : (Dev nD × Kd) × Dt => duty x.1.1 x.1.2 x.2 = true).map ⟨fun x => (cell x.1.1 x.1.2, 0, x.2), names_inj⟩

theorem cells_fam (Φ : GSem nD τ sig → sProp 𝕄) : bigSep cells Φ = bigSep Finset.univ fun c : Dev nD => bigSep Finset.univ fun k => Φ (cell c k) := by
  unfold cells; rw [bigSep_map, bigSep_univ_prod]; rfl

theorem names_fam : bigSep names (fun x => (dutyTok ER x.1 x.2.1 x.2.2 : sProp 𝕄)) = bigSep Finset.univ fun c : Dev nD => ownToks c := by
  unfold names
  rw [bigSep_map, bigSep_filter, bigSep_univ_prod, bigSep_univ_prod]
  refine bigSep_congr fun c _ => ?_
  unfold ownToks
  refine bigSep_congr fun k _ => ?_
  unfold duts
  rw [bigSep_filter]; rfl

/-- The element of the algebra that the launch allocates. -/
def u₀ : UU := (initOf (Pipeline.cells cfgs cellOf_inj) (Pipeline.launchToks cfgs cellOf_inj), initOf cells names)

/-- What of it device `c` is dealt. -/
def dealt (c : Dev nD) : sProp 𝕄 :=
  iprop((bigSep Finset.univ fun k => roundState ER (sch m) (cell c k) 0) ∗ (bigSep Finset.univ fun k => reached ER (cell c k) 0)
    ∗ (bigSep Finset.univ fun k => atPos ER (cell c k) 0 ∅ 0) ∗ ownToks c)

theorem deal : BI.own (ER (initOf cells names)) ⊢ (|==> bigSep Finset.univ (dealt m) : sProp 𝕄) := by
  iintro HX
  imod (Rounds.fund ER (sch m) cells names) $$ HX with ⟨Hst, Hr, Hat, Htok⟩
  imodintro
  ihave Hst := (Entails.of_eq (cells_fam fun g => roundState ER (sch m) g 0)) $$ Hst
  ihave Hr := (Entails.of_eq (cells_fam fun g => reached ER g 0)) $$ Hr
  ihave Hat := (Entails.of_eq (cells_fam fun g => atPos ER g 0 ∅ 0)) $$ Hat
  ihave Htok := (Entails.of_eq names_fam) $$ Htok
  unfold dealt
  simp only [bigSep_sep']
  isplitl [Hst]; · iexact Hst
  isplitl [Hr]; · iexact Hr
  isplitl [Hat] <;> iassumption

/-- What device `c` knows and has once every semaphore is under its invariant. -/
def armed (c : Dev nD) : sProp 𝕄 := iprop((∃ K, recs m K) ∗ (bigSep Finset.univ fun k => atPos ER (cell c k) 0 ∅ 0) ∗ toks c)

/-- The semaphores of device `c` are put under their invariants. -/
theorem arm_one (c : Dev nD) : iprop(Pipeline.ownSems0 osem c ∗ unscopedSems0 c ∗ dealt (F := F) m c)
    ⊢ |={Set.univ}=> iprop((bigSep Finset.univ fun k => iprop(∃ κ : ℕ, cellInv ER (sch m) κ (cell c k)))
        ∗ (bigSep Finset.univ fun k => reached ER (cell c k) 0) ∗ (bigSep Finset.univ fun k => atPos ER (cell c k) 0 ∅ 0) ∗ ownToks c) := by
  unfold dealt
  iintro ⟨Hos, Hus, Hst, Hr, Hat, Htok⟩
  ihave Hv := (Entails.of_eq (sems0_eq (F := F) c).symm) $$ [Hos Hus]
  · isplitl [Hos] <;> iassumption
  imod (show iprop((bigSep Finset.univ fun k => semVal (cell c k) 0) ∗ bigSep Finset.univ fun k => roundState ER (sch m) (cell c k) 0)
      ⊢ (|={Set.univ}=> bigSep Finset.univ fun k => iprop(∃ κ : ℕ, cellInv ER (sch m) κ (cell c k)) : sProp 𝕄) from by
        rw [← bigSep_sep']
        exact (bigSep_mono fun k _ => (Rounds.body_intro ER (sch m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- The invariants of all devices, known to each one, and the tokens dealt to those who contribute. -/
theorem arm_all : (bigSep Finset.univ fun c : Dev nD => iprop((bigSep Finset.univ fun k => iprop(∃ κ : ℕ, cellInv ER (sch m) κ (cell c k)))
        ∗ (bigSep Finset.univ fun k => reached ER (cell c k) 0) ∗ (bigSep Finset.univ fun k => atPos ER (cell c k) 0 ∅ 0) ∗ ownToks c) : sProp 𝕄)
    ⊢ bigSep Finset.univ (armed m) := by
  rw [bigSep_sep', bigSep_sep', bigSep_sep', ← bigSep_univ_prod (fun ck : Dev nD × Kd => iprop(∃ κ : ℕ, cellInv ER (sch m) κ (cell ck.1 ck.2))),
    ← bigSep_univ_prod (fun ck : Dev nD × Kd => (reached ER (cell ck.1 ck.2) 0 : sProp 𝕄))]
  iintro ⟨HI, Hr, Hat, Htok⟩
  ihave HK := (BI.bigSep_exists_pi Finset.univ (fun (ck : Dev nD × Kd) (κ : ℕ) => (cellInv ER (sch m) κ (cell ck.1 ck.2) : sProp 𝕄))) $$ HI
  icases HK with ⟨%K, HI⟩
  ihave Htok := toks_deal $$ Htok
  ihave HR := (Entails.of_eq (bigSep_sep' Finset.univ (fun ck : Dev nD × Kd => (cellInv ER (sch m) (K ck) (cell ck.1 ck.2) : sProp 𝕄))
    (fun ck => reached ER (cell ck.1 ck.2) 0)).symm) $$ [HI Hr]
  · isplitl [HI] <;> iassumption
  iapply (bigSep_beside (R := recs m K) (Φ := fun c : Dev nD => iprop((bigSep Finset.univ fun k => atPos ER (cell c k) 0 ∅ 0) ∗ toks c)) fun c _ => by
    unfold armed
    iintro ⟨HR, HT⟩
    isplitl [HR]
    · iexists K; iexact HR
    iexact HT)
  isplitl [HR]
  · unfold recs; iexact HR
  rw [bigSep_sep']
  isplitl [Hat] <;> iassumption

theorem arm : (bigSep Finset.univ fun c => iprop(Pipeline.ownSems0 osem c ∗ unscopedSems0 c ∗ dealt m c) : sProp 𝕄)
    ⊢ |={Set.univ}=> bigSep Finset.univ (armed m) :=
  ((bigSep_mono fun c _ => arm_one m c).trans (bigSep_fupd _ _)).trans (BI.fupd_mono (arm_all m))

/-! ## The start and the end of one device -/

theorem start_intro (c : Dev nD) :
    iprop(Pipeline.unscopedRestP Pipeline.Prefetch.none cfg0.spec c (fun b => m ((c : Thread nD τ).loc b)) ∗ levAts L lv
        ∗ Pipeline.launchCred (fun c => owed c allOps) c ∗ prngReg c (ρ c) ∗ armed (F := F) m c)
      ⊢ |={Set.univ}=> iprop(start m c ∗ emp) := by
  rw [Pipeline.unscopedRestP_none, unscopedRest0_eq]
  unfold armed start begins
  iintro ⟨⟨HA, HO⟩, HL, HC, -, HR, HP, HT⟩
  ihave HC := (creds_deal c) $$ HC
  imodintro
  isplitl
  · isplitl [HR]; · iexact HR
    isplitl [HL]; · iexact HL
    isplitl [HP]; · iexact HP
    isplitl [HT]; · iexact HT
    isplitl [HC]; · iexact HC
    isplitl [HA]; · iexact HA
    iexists _; iexact HO
  · iempintro

/-- What is read at the end: the semaphores outside the kernel and the two arrays. -/
def last (c : Dev nD) : sProp 𝕄 :=
  iprop(unscopedSems0 c ∗ ((c : Thread nD τ).loc main_arg0 ↦{fullShare} m ((c : Thread nD τ).loc main_arg0))
    ∗ ((c : Thread nD τ).loc main_v1 ↦{fullShare} result m c))

theorem done_exit (c : Dev nD) : done (F := F) m c ⊢ iprop(last m c ∗ Pipeline.ownSems0 osem c ∗ Pipeline.scopedRest cfg0.spec c) := by
  unfold done last
  rw [sems0_eq, scopedRest0_eq]
  iintro ⟨⟨HO, HU⟩, HA, HV⟩
  isplitl [HU HA HV]
  · isplitl [HU]; · iexact HU
    isplitl [HA] <;> iassumption
  isplitl [HO]; · iexact HO
  iempintro

theorem last_read (c : Dev nD) (s' : Phys nD τ sig (Elt F)) : iprop(last m c ∗ emp ∗ SI s')
    ⊢ (|={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0)
        ∧ s'.mem.mem ((c : Thread nD τ).loc main_v1) = result m c⌝ ∗ SI s') : sProp 𝕄) := by
  unfold last
  iintro ⟨⟨HU, HA, HV⟩, -, HSI⟩
  icombine HSI HA gives %hA
  icombine HSI HV gives %hV
  ihave %hU := (tcUnscoped_read c s') $$ [HU HSI]
  · isplitl [HU] <;> iassumption
  imodintro
  isplitr
  · ipureintro
    exact ⟨hU, funext fun i => hA i (Finset.mem_univ i), funext fun i => hV i (Finset.mem_univ i)⟩
  iexact HSI

/-! ## The run -/

/-- What holds after the run of all devices. -/
def After (s : MemSt nD τ sig (Elt F)) : Prop :=
  (∀ c : Dev nD, s.mem ((c : Thread nD τ).loc main_arg0) = m ((c : Thread nD τ).loc main_arg0)
    ∧ s.mem ((c : Thread nD τ).loc main_v1) = result m c) ∧ s.sem = fun _ => 0

/-- On the mesh, for any float values and from any memory with zero counters, every run of the program ends; then every
    device's result array holds the gathered blocks, its argument array is unchanged and every semaphore is at zero. -/
theorem run_main : θ_run defs (onTc (τ := τ) (main (F := F))) ⟨m, fun _ => 0, ρ⟩ (fun r => After m r.2) :=
  Pipeline.θ_run_region_owing_glob_pf (fun p => (cfgs p).toPCfg) (fun p => (cfgs p).toPCfg_adm) (dats m) (true, 0, 0) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => owed c allOps) (howed₀ := fun _ => rfl) (howedN := fun _ => rfl)
    (L := L) (lv := lv) (hL := L_of_ne) (hwaits := fun c => Pipeline.cellsWaits_intro cfgs (dats m) (true, 0, 0) 0 c fun w s t => w.elim0)
    (G := dealt m) (G' := armed m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := arm m)
    (hA := fun _ w => w.elim0) (hpf := fun _ k => k.elim0)
    (X := start m) (Y := last m) (Z := fun _ => iprop(emp))
    (hX := start_intro m ρ)
    (hin := fun c => by
      show _ ⊢ start m c
      iintro ⟨HS, -⟩
      iexact HS)
    (hout := done_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_v1) = result m c)
    (hY := last_read m)
    (hQ := fun _ h hs => ⟨fun c => (h c).2.2.2, sem_eq_zero hs fun c => (h c).2.2.1⟩)

end Cert.Gather
-- ==== Proof.Values.lean ====
/-
# The values

The run of the reference, and what the devices' results are where their arguments are the blocks of one array.
-/
module

public import proofs.«01_k».proof.Proof.Launch
public import proofs.«01_k».proof.Proof.Gen.ReferenceIdeal
public import proofs.«01_k».proof.Defs
public import Idealize.ShloMosaic.Lib.StableHlo.Run
public import Idealize.ShloMosaic.Lib.Quiescent

@[expose] public section

noncomputable section

/-! ## The reference -/

namespace Cert.Reference

open Cert.ReferenceIdeal
open Idealize.ShloMosaic Idealize.ShloMosaic.TcCoe Idealize.SL.Sem

variable {F : FTy → Type} [FloatOps F]

/-- The reference performs no operation: its result is its argument, and it leaves the memory and the semaphores as they
    were. -/
theorem run_main (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems rfl r.2⟩)
    (StableHlo.run_seq (by decide) (by decide) defs main (fun _ => []) (fun _ => rfl) (fun _ => trivial) m ρ)

end Cert.Reference

/-! ## The gathered array -/

namespace Cert.Gather

open Cert.KernelIdeal
open Idealize.ShloMosaic Idealize.ShloMosaic.TcCoe Idealize.SL.Sem

variable {F : FTy → Type} [FloatOps F]

/-- Where an element of the whole array is in the block of the device that holds it. -/
theorem whole_idx (c : Dev nD) (i : S65536x1024.Idx) (hc : (blkOf i).val = c.val % 4)
    (h : Layout.TilesN ⟨2, ![16384, 1024]⟩ ⟨2, ![65536, 1024]⟩ fun b => Layout.cutSize [2, 4, 4] (![[2], []] b)) :
    h.idx (Layout.meshBlock [2, 4, 4] ![[2], []] c) (inBlk i) = i := by
  have h0 : (blkOf i).val = (i 0).val / 16384 := rfl
  have h1 : Layout.meshLin [2, 4, 4] c.val [2] = c.val % 4 := by
    show c.val / 1 % 4 * 1 + 0 = c.val % 4
    omega
  have h2 : Layout.meshLin [2, 4, 4] c.val [] = 0 := rfl
  refine funext (Fin.forall_fin_two.mpr ⟨Fin.ext ?_, Fin.ext ?_⟩)
  · show Layout.meshLin [2, 4, 4] c.val [2] * 16384 + (i 0).val % 16384 = (i 0).val
    omega
  · show Layout.meshLin [2, 4, 4] c.val [] * 1024 + (i 1).val = (i 1).val
    omega

/-- Where the devices' arguments are the blocks of one array, every device's result is that array. -/
theorem result_whole (m : (ℓ : Loc nD τ sig) → Buf (Elt F) ℓ) (X : (⟨2, ![65536, 1024]⟩ : Shape).Idx → Elt F .bf16)
    (hX : ∀ c : Dev nD, (m ((c : Thread nD τ).loc main_arg0) : S16384x1024.Idx → Elt F .bf16)
      = Layout.blockN ⟨2, ![16384, 1024]⟩ ⟨2, ![65536, 1024]⟩ (Layout.meshBlock [2, 4, 4] ![[2], []] c) X) (c : Dev nD) :
    (result m c : S65536x1024.Idx → Elt F .bf16) = X := by
  funext i
  have key (c' : Dev nD) (hc : (blkOf i).val = c'.val % 4) : (m ((c' : Thread nD τ).loc main_arg0) : S16384x1024.Idx → Elt F .bf16) (inBlk i) = X i := by
    rw [hX c', Layout.blockN_apply, whole_idx c' i hc]
  show (if blkOf i = blk true 0 c then own m c i else gold m c i) = X i
  by_cases hb : blkOf i = blk true 0 c
  · rw [if_pos hb]
    refine key c ?_
    rw [hb]
    show (c.val % 4 + 4 - 0) % 4 = c.val % 4
    omega
  · rw [if_neg hb]
    refine key (devOf (yc c) (halfOf i) (blkOf i)) ?_
    show (blkOf i).val = (16 * (halfOf i).val + 4 * (yc c).val + (blkOf i).val) % 4
    have := (blkOf i).isLt
    omega

end Cert.Gather
-- ==== Proof.lean ====
/-
# The certificate

Every claim of `Cert.Claim`, from the run of the kernel on the mesh (`Cert.Gather.run_main`, Proof/Launch.lean) and the
run of the reference (`Cert.Reference.run_main`, Proof/Values.lean).
-/
module

public import proofs.«01_k».proof.Defs
public import proofs.«01_k».proof.Proof.Values
public import proofs.«01_k».proof.Proof.Gen.Kernel

@[expose] public section

noncomputable section

namespace Cert.Proof

open Idealize.ShloMosaic Idealize.SL.Sem

/-- The kernel over bit patterns ends on every device, leaves its argument as it was and every semaphore at zero. -/
theorem frame_kernel : Cert.quiescent_Kernel := fun m ρ _ =>
  (θ_run Cert.KernelIdeal.defs _ _).mono (fun _ h => ⟨fun c => (h.1 c).1, h.2⟩) (Cert.Gather.run_main (F := Bits) m ρ)

/-- The same for the kernel over the extended reals. -/
theorem frame_kernelIdeal : Cert.quiescent_KernelIdeal := fun m ρ _ =>
  (θ_run Cert.KernelIdeal.defs _ _).mono (fun _ h => ⟨fun c => (h.1 c).1, h.2⟩) (Cert.Gather.run_main (F := Ideal) m ρ)

/-- The same for the reference. -/
theorem frame_reference : Cert.quiescent_ReferenceIdeal := fun m ρ _ => Cert.Reference.run_main (F := Ideal) m ρ

/-- From arguments that are the blocks of the reference's argument, every device's result is the reference's. -/
theorem algebraic : Cert.algebraic_KernelIdeal_ReferenceIdeal := fun m ρ m' ρ' _ hX =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).2.trans (Cert.Gather.result_whole m _ hX c), (h.1 c).1⟩) (Cert.Gather.run_main (F := Ideal) m ρ),
    (θ_run Cert.ReferenceIdeal.defs _ _).mono (fun _ h => ⟨h.1 0, h.1 0⟩) (Cert.Reference.run_main (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
